-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_3)) (v3 : (c : Dev Cert.Kernel3Ideal.nD) → Buf (Elt Ideal) ((c.tc : Thread Cert.Kernel3Ideal.nD Cert.Kernel3Ideal.τ).loc Cert.Kernel3Ideal.main_v0_4)) (v4 : (c : Dev Cert.Kernel3Ideal.nD) → Buf (Elt Ideal) ((c.tc : Thread Cert.Kernel3Ideal.nD Cert.Kernel3Ideal.τ).loc Cert.Kernel3Ideal.main_v0_5)) (v5 : (c : Dev Cert.Kernel3Ideal.nD) → Buf (Elt Ideal) ((c.tc : Thread Cert.Kernel3Ideal.nD Cert.Kernel3Ideal.τ).loc Cert.Kernel3Ideal.main_v0_6)) (v6 : (c : Dev Cert.Kernel3Ideal.nD) → Buf (Elt Ideal) ((c.tc : Thread Cert.Kernel3Ideal.nD Cert.Kernel3Ideal.τ).loc Cert.Kernel3Ideal.main_v0_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_3) = v2 c
          ∧ r.2.mem ((c.tc : Thread Cert.Kernel3Ideal.nD Cert.Kernel3Ideal.τ).loc Cert.Kernel3Ideal.main_v0_4) = v3 c
          ∧ r.2.mem ((c.tc : Thread Cert.Kernel3Ideal.nD Cert.Kernel3Ideal.τ).loc Cert.Kernel3Ideal.main_v0_5) = v4 c
          ∧ r.2.mem ((c.tc : Thread Cert.Kernel3Ideal.nD Cert.Kernel3Ideal.τ).loc Cert.Kernel3Ideal.main_v0_6) = v5 c
          ∧ r.2.mem ((c.tc : Thread Cert.Kernel3Ideal.nD Cert.Kernel3Ideal.τ).loc Cert.Kernel3Ideal.main_v0_7) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v27) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_v29) = v5 c
          ∧ r.2.mem ((c.tc : Thread Cert.Reference3Ideal.nD Cert.Reference3Ideal.τ).loc Cert.Reference3Ideal.main_v30) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S24x16384x128 : Shape := ⟨3, ![24, 16384, 128]⟩
abbrev S16x257 : Shape := ⟨2, ![16, 257]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1 : Shape := ⟨2, ![16, 1]⟩
abbrev S16x1x1024 : Shape := ⟨3, ![16, 1, 1024]⟩
abbrev S8x16384x128 : Shape := ⟨3, ![8, 16384, 128]⟩
abbrev S1x4096x128 : Shape := ⟨3, ![1, 4096, 128]⟩
abbrev S2x1x1024 : Shape := ⟨3, ![2, 1, 1024]⟩
abbrev S2x256x768 : Shape := ⟨3, ![2, 256, 768]⟩
abbrev S512x768 : Shape := ⟨2, ![512, 768]⟩
abbrev S1x1x1024 : Shape := ⟨3, ![1, 1, 1024]⟩
abbrev S1x1024 : Shape := ⟨2, ![1, 1024]⟩
abbrev S256x1024 : Shape := ⟨2, ![256, 1024]⟩
abbrev S256x768 : Shape := ⟨2, ![256, 768]⟩
abbrev S1x256x768 : Shape := ⟨3, ![1, 256, 768]⟩
abbrev S256x128 : Shape := ⟨2, ![256, 128]⟩
abbrev S1x256x128 : Shape := ⟨3, ![1, 256, 128]⟩
abbrev S512x128 : Shape := ⟨2, ![512, 128]⟩
abbrev S512x256 : Shape := ⟨2, ![512, 256]⟩
abbrev S32x128 : Shape := ⟨2, ![32, 128]⟩
abbrev S64x128 : Shape := ⟨2, ![64, 128]⟩
abbrev S1x32x128 : Shape := ⟨3, ![1, 32, 128]⟩
abbrev S32 : Shape := ⟨1, ![32]⟩
abbrev S32x1 : Shape := ⟨2, ![32, 1]⟩
abbrev S32x256 : Shape := ⟨2, ![32, 256]⟩
abbrev S1x512x128 : Shape := ⟨3, ![1, 512, 128]⟩
abbrev S512x512 : Shape := ⟨2, ![512, 512]⟩
abbrev S256x256 : Shape := ⟨2, ![256, 256]⟩
abbrev S32x384 : Shape := ⟨2, ![32, 384]⟩
abbrev S32x512 : Shape := ⟨2, ![32, 512]⟩
abbrev S1x768x128 : Shape := ⟨3, ![1, 768, 128]⟩
abbrev S768x128 : Shape := ⟨2, ![768, 128]⟩
abbrev S32x640 : Shape := ⟨2, ![32, 640]⟩
abbrev S768x256 : Shape := ⟨2, ![768, 256]⟩

abbrev nBuf : Space → Nat
  | .hbm => 37
  | .vmem => 15
  | .smem => 0
  | _ => 0

abbrev bufTy : (tb : Table) → Fin (tcTables nBuf tb) → BufTy
  | .hbm, ⟨0, _⟩ => ⟨S24x16384x128, .bf16⟩
  | .hbm, ⟨1, _⟩ => ⟨S16x257, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S16x1024, .f32⟩
  | .hbm, ⟨29, _⟩ => ⟨S16x1, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1x1024, .f32⟩
  | .hbm, ⟨36, _⟩ => ⟨S8x16384x128, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S2x1x1024, .f32⟩
  | .local _ .vmem, ⟨7, _⟩ => ⟨S2x1x1024, .f32⟩
  | .local _ .vmem, ⟨8, _⟩ => ⟨S1x4096x128, .bf16⟩
  | .local _ .vmem, ⟨9, _⟩ => ⟨S1x4096x128, .bf16⟩
  | .local _ .vmem, ⟨10, _⟩ => ⟨S2x256x768, .f32⟩
  | .local _ .vmem, ⟨11, _⟩ => ⟨S512x768, .f32⟩
  | .local _ .vmem, ⟨12, _⟩ => ⟨S512x768, .f32⟩
  | .local _ .vmem, ⟨13, _⟩ => ⟨S512x768, .bf16⟩
  | .local _ .vmem, ⟨14, _⟩ => ⟨S512x768, .bf16⟩
  | _, _ => ⟨S24x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_c_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32_1 : BitVec 32 := 0#32
  c0_i32_1
def k0_off1 : Fin 3 → Nat :=
  let c0_4 : Index := 0#32
  let c0_i32_1 : BitVec 32 := 0#32
  let v3 : BitVec 32 := c0_i32_1
  let c256_i32 : BitVec 32 := 256#32
  let v14 : BitVec 32 := Scalar.addi v3 c256_i32
  let c256_i32_3 : BitVec 32 := 256#32
  let v15 : BitVec 32 := Scalar.subi v14 c256_i32_3
  let v16 : Index := Scalar.indexCast v15
  let c0_5 : Index := 0#32
  ![0, v16.toNat, 0]
def k0_mult2 : BitVec 32 :=
  let c256_i32_187 : BitVec 32 := 256#32
  c256_i32_187
def k0_off2 : Fin 3 → Nat :=
  let c0_193 : Index := 0#32
  let c256_i32_187 : BitVec 32 := 256#32
  let v320 : BitVec 32 := c256_i32_187
  let c256_i32_192 : BitVec 32 := 256#32
  let v331 : BitVec 32 := Scalar.addi v320 c256_i32_192
  let c512_i32 : BitVec 32 := 512#32
  let v332 : BitVec 32 := Scalar.subi v331 c512_i32
  let v333 : Index := Scalar.indexCast v332
  let c0_194 : Index := 0#32
  ![0, v333.toNat, 0]
def k0_mult3 : BitVec 32 :=
  let c0_i32_198 : BitVec 32 := 0#32
  c0_i32_198
def k0_mult4 : BitVec 32 :=
  let c512_i32_494 : BitVec 32 := 512#32
  c512_i32_494
def k0_off3 (c512_i32_494 : BitVec 32) : Fin 3 → Nat :=
  let c0_500 : Index := 0#32
  let v725 : BitVec 32 := c512_i32_494
  let c256_i32_499 : BitVec 32 := 256#32
  let v736 : BitVec 32 := Scalar.addi v725 c256_i32_499
  let c768_i32 : BitVec 32 := 768#32
  let v737 : BitVec 32 := Scalar.subi v736 c768_i32
  let v738 : Index := Scalar.indexCast v737
  let c0_501 : Index := 0#32
  ![0, v738.toNat, 0]
def k0_mult5 : BitVec 32 :=
  let c256_i32_505 : BitVec 32 := 256#32
  c256_i32_505
def k0_mult6 : BitVec 32 :=
  let c768_i32_877 : BitVec 32 := 768#32
  c768_i32_877
def k0_mult7 : BitVec 32 :=
  let c512_i32_889 : BitVec 32 := 512#32
  c512_i32_889
def k0_mult8 : BitVec 32 :=
  let c1024_i32 : BitVec 32 := 1024#32
  c1024_i32
def k0_mult9 : BitVec 32 :=
  let c768_i32_1272 : BitVec 32 := 768#32
  c768_i32_1272
def k0_mult10 : BitVec 32 :=
  let c1280_i32 : BitVec 32 := 1280#32
  c1280_i32
def k0_mult11 : BitVec 32 :=
  let c1024_i32_1655 : BitVec 32 := 1024#32
  c1024_i32_1655
def k0_mult12 : BitVec 32 :=
  let c1536_i32 : BitVec 32 := 1536#32
  c1536_i32
def k0_mult13 : BitVec 32 :=
  let c1280_i32_2038 : BitVec 32 := 1280#32
  c1280_i32_2038
def k0_mult14 : BitVec 32 :=
  let c1792_i32 : BitVec 32 := 1792#32
  c1792_i32
def k0_mult15 : BitVec 32 :=
  let c1536_i32_2421 : BitVec 32 := 1536#32
  c1536_i32_2421
def k0_mult16 : BitVec 32 :=
  let c2048_i32 : BitVec 32 := 2048#32
  c2048_i32
def k0_mult17 : BitVec 32 :=
  let c1792_i32_2804 : BitVec 32 := 1792#32
  c1792_i32_2804
def k0_mult18 : BitVec 32 :=
  let c2304_i32 : BitVec 32 := 2304#32
  c2304_i32
def k0_mult19 : BitVec 32 :=
  let c2048_i32_3187 : BitVec 32 := 2048#32
  c2048_i32_3187
def k0_mult20 : BitVec 32 :=
  let c2560_i32 : BitVec 32 := 2560#32
  c2560_i32
def k0_mult21 : BitVec 32 :=
  let c2304_i32_3570 : BitVec 32 := 2304#32
  c2304_i32_3570
def k0_mult22 : BitVec 32 :=
  let c2816_i32 : BitVec 32 := 2816#32
  c2816_i32
def k0_mult23 : BitVec 32 :=
  let c2560_i32_3953 : BitVec 32 := 2560#32
  c2560_i32_3953
def k0_mult24 : BitVec 32 :=
  let c3072_i32 : BitVec 32 := 3072#32
  c3072_i32
def k0_mult25 : BitVec 32 :=
  let c2816_i32_4336 : BitVec 32 := 2816#32
  c2816_i32_4336
def k0_mult26 : BitVec 32 :=
  let c3328_i32 : BitVec 32 := 3328#32
  c3328_i32
def k0_mult27 : BitVec 32 :=
  let c3072_i32_4719 : BitVec 32 := 3072#32
  c3072_i32_4719
def k0_mult28 : BitVec 32 :=
  let c3584_i32 : BitVec 32 := 3584#32
  c3584_i32
def k0_mult29 : BitVec 32 :=
  let c3328_i32_5102 : BitVec 32 := 3328#32
  c3328_i32_5102
def k0_mult30 : BitVec 32 :=
  let c3840_i32 : BitVec 32 := 3840#32
  c3840_i32
def k0_mult31 : BitVec 32 :=
  let c3584_i32_5485 : BitVec 32 := 3584#32
  c3584_i32_5485
def k0_mult32 : BitVec 32 :=
  let c3840_i32_5857 : BitVec 32 := 3840#32
  c3840_i32_5857
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2.lean ====
abbrev S16384x1024 : Shape := ⟨2, ![16384, 1024]⟩
abbrev S8x16384x128 : Shape := ⟨3, ![8, 16384, 128]⟩
abbrev S16384x2048 : Shape := ⟨2, ![16384, 2048]⟩
abbrev S1x2048 : Shape := ⟨2, ![1, 2048]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S8x16384x128, .bf16⟩
  | .hbm, ⟨2, _⟩ => ⟨S16384x1024, .bf16⟩
  | .hbm, ⟨3, _⟩ => ⟨S16384x2048, .bf16⟩
  | .hbm, ⟨4, _⟩ => ⟨S1x2048, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x2048, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S8x16384x128 : Shape := ⟨3, ![8, 16384, 128]⟩
abbrev S16384x2048 : Shape := ⟨2, ![16384, 2048]⟩
abbrev S1x2048 : Shape := ⟨2, ![1, 2048]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S16384x8x128 : Shape := ⟨3, ![16384, 8, 128]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x16384x128, .bf16⟩
  | .hbm, ⟨2, _⟩ => ⟨S16384x1024, .bf16⟩
  | .hbm, ⟨3, _⟩ => ⟨S16384x2048, .bf16⟩
  | .hbm, ⟨4, _⟩ => ⟨S1x2048, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S8x16384x128, .f32⟩
  | .hbm, ⟨13, _⟩ => ⟨S16384x8x128, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1024x5632, .f32⟩
  | .hbm, ⟨55, _⟩ => ⟨S16384x5632, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S_, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S2816x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x7168 : Shape := ⟨2, ![1024, 7168]⟩
abbrev S4x1024 : Shape := ⟨2, ![4, 1024]⟩
abbrev S16x64x64 : Shape := ⟨3, ![16, 64, 64]⟩
abbrev S1024x1024 : Shape := ⟨2, ![1024, 1024]⟩
abbrev S1024x5632 : Shape := ⟨2, ![1024, 5632]⟩
abbrev S2816x1024 : Shape := ⟨2, ![2816, 1024]⟩
abbrev S24x16384x128 : Shape := ⟨3, ![24, 16384, 128]⟩
abbrev S16384x2048 : Shape := ⟨2, ![16384, 2048]⟩
abbrev S512x1024 : Shape := ⟨2, ![512, 1024]⟩
abbrev S32x1024 : Shape := ⟨2, ![32, 1024]⟩
abbrev S32x5632 : Shape := ⟨2, ![32, 5632]⟩
abbrev S176x1024 : Shape := ⟨2, ![176, 1024]⟩
abbrev S24x512x128 : Shape := ⟨3, ![24, 512, 128]⟩
abbrev S512x2048 : Shape := ⟨2, ![512, 2048]⟩
abbrev S128x7168 : Shape := ⟨2, ![128, 7168]⟩
abbrev S2 : Shape := ⟨1, ![2]⟩
abbrev S4x256x256 : Shape := ⟨3, ![4, 256, 256]⟩
abbrev S8x520x128 : Shape := ⟨3, ![8, 520, 128]⟩
abbrev S512x256 : Shape := ⟨2, ![512, 256]⟩
abbrev S8x544x128 : Shape := ⟨3, ![8, 544, 128]⟩
abbrev S8x1024 : Shape := ⟨2, ![8, 1024]⟩
abbrev S1 : Shape := ⟨1, ![1]⟩
abbrev S_ : Shape := ⟨0, ![]⟩
abbrev S64x7168 : Shape := ⟨2, ![64, 7168]⟩
abbrev S1x64x64 : Shape := ⟨3, ![1, 64, 64]⟩
abbrev S64x64 : Shape := ⟨2, ![64, 64]⟩
abbrev S8x8x128 : Shape := ⟨3, ![8, 8, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128 : Shape := ⟨2, ![1, 128]⟩
abbrev S1x64x128 : Shape := ⟨3, ![1, 64, 128]⟩
abbrev S64x128 : Shape := ⟨2, ![64, 128]⟩
abbrev S1x8x128 : Shape := ⟨3, ![1, 8, 128]⟩
abbrev S8x128 : Shape := ⟨2, ![8, 128]⟩
abbrev S1x256x256 : Shape := ⟨3, ![1, 256, 256]⟩
abbrev S256x256 : Shape := ⟨2, ![256, 256]⟩
abbrev S1024x256 : Shape := ⟨2, ![1024, 256]⟩

abbrev nBuf : Space → Nat
  | .hbm => 23
  | .vmem => 51
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7168, .f32⟩
  | .hbm, ⟨3, _⟩ => ⟨S4x1024, .f32⟩
  | .hbm, ⟨4, _⟩ => ⟨S1x1024, .f32⟩
  | .hbm, ⟨5, _⟩ => ⟨S16x64x64, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x5632, .f32⟩
  | .hbm, ⟨14, _⟩ => ⟨S2816x1024, .f32⟩
  | .hbm, ⟨15, _⟩ => ⟨S24x16384x128, .bf16⟩
  | .hbm, ⟨16, _⟩ => ⟨S16384x2048, .bf16⟩
  | .hbm, ⟨17, _⟩ => ⟨S16384x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x5632, .bf16⟩
  | .hbm, ⟨22, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024, .f32⟩
  | .local _ .vmem, ⟨4, _⟩ => ⟨S1x1024, .f32⟩
  | .local _ .vmem, ⟨5, _⟩ => ⟨S16x64x64, .f32⟩
  | .local _ .vmem, ⟨6, _⟩ => ⟨S1x1024, .f32⟩
  | .local _ .vmem, ⟨7, _⟩ => ⟨S16x64x64, .f32⟩
  | .local _ .vmem, ⟨8, _⟩ => ⟨S1x1024, .f32⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x5632, .f32⟩
  | .local _ .vmem, ⟨17, _⟩ => ⟨S32x5632, .f32⟩
  | .local _ .vmem, ⟨18, _⟩ => ⟨S176x1024, .f32⟩
  | .local _ .vmem, ⟨19, _⟩ => ⟨S176x1024, .f32⟩
  | .local _ .vmem, ⟨20, _⟩ => ⟨S24x512x128, .bf16⟩
  | .local _ .vmem, ⟨21, _⟩ => ⟨S24x512x128, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S32x1024, .bf16⟩
  | .local _ .vmem, ⟨27, _⟩ => ⟨S32x1024, .bf16⟩
  | .local _ .vmem, ⟨28, _⟩ => ⟨S32x1024, .bf16⟩
  | .local _ .vmem, ⟨29, _⟩ => ⟨S32x1024, .bf16⟩
  | .local _ .vmem, ⟨30, _⟩ => ⟨S32x1024, .bf16⟩
  | .local _ .vmem, ⟨31, _⟩ => ⟨S32x1024, .bf16⟩
  | .local _ .vmem, ⟨32, _⟩ => ⟨S32x5632, .bf16⟩
  | .local _ .vmem, ⟨33, _⟩ => ⟨S32x5632, .bf16⟩
  | .local _ .vmem, ⟨34, _⟩ => ⟨S176x1024, .bf16⟩
  | .local _ .vmem, ⟨35, _⟩ => ⟨S176x1024, .bf16⟩
  | .local _ .vmem, ⟨36, _⟩ => ⟨S1024x7168, .bf16⟩
  | .local _ .vmem, ⟨37, _⟩ => ⟨S128x7168, .f32⟩
  | .local _ .vmem, ⟨38, _⟩ => ⟨S4x256x256, .bf16⟩
  | .local _ .vmem, ⟨39, _⟩ => ⟨S4x256x256, .bf16⟩
  | .local _ .vmem, ⟨40, _⟩ => ⟨S512x1024, .bf16⟩
  | .local _ .vmem, ⟨41, _⟩ => ⟨S512x1024, .f32⟩
  | .local _ .vmem, ⟨42, _⟩ => ⟨S8x520x128, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | .local _ .vmem, ⟨46, _⟩ => ⟨S8x544x128, .f32⟩
  | .local _ .vmem, ⟨47, _⟩ => ⟨S8x544x128, .f32⟩
  | .local _ .vmem, ⟨48, _⟩ => ⟨S8x544x128, .f32⟩
  | .local _ .vmem, ⟨49, _⟩ => ⟨S8x544x128, .f32⟩
  | .local _ .vmem, ⟨50, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_scratch8 : Ref sig .tc := ⟨.vmem, 43, rfl⟩
abbrev cc0_scratch9 : Ref sig .tc := ⟨.vmem, 44, rfl⟩
abbrev cc0_scratch10 : Ref sig .tc := ⟨.vmem, 45, rfl⟩
abbrev cc0_scratch11 : Ref sig .tc := ⟨.vmem, 46, rfl⟩
abbrev cc0_scratch12 : Ref sig .tc := ⟨.vmem, 47, rfl⟩
abbrev cc0_scratch13 : Ref sig .tc := ⟨.vmem, 48, rfl⟩
abbrev cc0_scratch14 : Ref sig .tc := ⟨.vmem, 49, rfl⟩
abbrev cc0_scratch15 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_12 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_14 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_22 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S24x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x5632 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S16384x1024 : Shape := ⟨2, ![16384, 1024]⟩
abbrev S1x1024 : Shape := ⟨2, ![1, 1024]⟩
abbrev S1024x7168 : Shape := ⟨2, ![1024, 7168]⟩
abbrev S4x1024 : Shape := ⟨2, ![4, 1024]⟩
abbrev S16x64x64 : Shape := ⟨3, ![16, 64, 64]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x7168 : Shape := ⟨2, ![16384, 7168]⟩
abbrev S16384x2048 : Shape := ⟨2, ![16384, 2048]⟩
abbrev S16384x3072 : Shape := ⟨2, ![16384, 3072]⟩
abbrev S16384x24x128 : Shape := ⟨3, ![16384, 24, 128]⟩
abbrev S24x16384x128 : Shape := ⟨3, ![24, 16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7168, .f32⟩
  | .hbm, ⟨3, _⟩ => ⟨S4x1024, .f32⟩
  | .hbm, ⟨4, _⟩ => ⟨S1x1024, .f32⟩
  | .hbm, ⟨5, _⟩ => ⟨S16x64x64, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x5632, .f32⟩
  | .hbm, ⟨14, _⟩ => ⟨S2816x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x7168, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x2048, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x3072, .f32⟩
  | .hbm, ⟨41, _⟩ => ⟨S16384x24x128, .f32⟩
  | .hbm, ⟨42, _⟩ => ⟨S24x16384x128, .f32⟩
  | .hbm, ⟨43, _⟩ => ⟨S24x16384x128, .bf16⟩
  | .hbm, ⟨44, _⟩ => ⟨S16384x2048, .bf16⟩
  | .hbm, ⟨45, _⟩ => ⟨S1024x1024, .bf16⟩
  | .hbm, ⟨46, _⟩ => ⟨S1024x1024, .bf16⟩
  | .hbm, ⟨47, _⟩ => ⟨S1024x1024, .bf16⟩
  | .hbm, ⟨48, _⟩ => ⟨S1024x5632, .bf16⟩
  | .hbm, ⟨49, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.MixRows.lean ====
module

public import proofs.«01_k».proof.Proof.Gen.Kernel2Ideal.Frame
public import Idealize.ShloMosaic.Lib.Pointwise

@[expose] public section

set_option maxRecDepth 16384

noncomputable section

namespace Cert.Mix

open Idealize.ShloMosaic Cert.Kernel2Ideal Cert.Kernel2Ideal.Gen

abbrev width : EReal := Ideal.ofBits .f32 0x44800000#32
abbrev eps : EReal := Ideal.ofBits .f32 0x358637BD#32

/-- RMSNorm of one row `v` of 1024 entries, scaled by `g`. -/
def rms (v g : Fin 1024 → EReal) (d : Fin 1024) : EReal :=
  v d * Ideal.rsqrt (Ideal.div (∑ k, v k * v k) width + eps) * g d

/-- One row of the merged residual stream: the two branches through their output projections, each weighted by its
    gate, summed, projected and added to the input row. -/
def merged (x a b ga gb ma mb : Fin 1024 → EReal) (wa wb wo : Fin 1024 → Fin 1024 → EReal) (d : Fin 1024) : EReal :=
  x d + ∑ k, (Ideal.logistic (ga k + ma k) * (∑ j, a j * wa j k)
    + Ideal.logistic (gb k + mb k) * (∑ j, b j * wb j k)) * wo k d

/-- One hidden unit of the gated feed-forward layer, from a row `v` and its two weight columns. -/
def unit (v p q : Fin 1024 → EReal) : EReal :=
  (∑ k, v k * p k) * Ideal.logistic (∑ k, v k * p k) * (∑ k, v k * q k)

/-- Hidden unit `f` of the layer whose weights hold the gate columns first, the value columns after them. -/
def hidden (v : Fin 1024 → EReal) (w : Fin 1024 → Fin 5632 → EReal) (f : Fin 2816) : EReal :=
  unit v (fun k => w k ⟨f.val, by omega⟩) (fun k => w k ⟨2816 + f.val, by omega⟩)

/-- One row of the result: the merged row plus its feed-forward layer, normalised. -/
def outRow (h gn gf : Fin 1024 → EReal) (win : Fin 1024 → Fin 5632 → EReal) (wout : Fin 2816 → Fin 1024 → EReal)
    (d : Fin 1024) : EReal :=
  rms (fun e => h e + ∑ f, hidden (rms h gn) win f * wout f e) gf d

theorem pay3_apply (a : Vec Ideal S512x1024 .bf16) (w : Vec Ideal S1024x1024 .bf16) (r : Fin 512) (d : Fin 1024) :
    k0_pay3 a w (ix2 r d) = ∑ k : Fin 1024, a (ix2 r k) * w (ix2 k d) := by
  pointwise [k0_pay3]

theorem pay5_apply (ya yb ga : Vec Ideal S512x1024 .f32) (ma : Vec Ideal S1x1024 .f32) (gb : Vec Ideal S512x1024 .bf16)
    (mb : Vec Ideal S1x1024 .f32) (x : Vec Ideal S512x1024 .f32) (wo : Vec Ideal S1024x1024 .bf16) (r : Fin 512) (d : Fin 1024) :
    k0_pay5 ya yb ga ma gb mb x wo (ix2 r d)
      = x (ix2 r d) + ∑ k : Fin 1024, (Ideal.logistic (ga (ix2 r k) + ma (ix2 0 k)) * ya (ix2 r k)
          + Ideal.logistic (gb (ix2 r k) + mb (ix2 0 k)) * yb (ix2 r k)) * wo (ix2 k d) := by
  pointwise [k0_pay5]

theorem pay6_apply (ya yb ga : Vec Ideal S512x1024 .f32) (ma : Vec Ideal S1x1024 .f32) (gb : Vec Ideal S512x1024 .bf16)
    (mb : Vec Ideal S1x1024 .f32) (x : Vec Ideal S512x1024 .f32) (wo : Vec Ideal S1024x1024 .bf16)
    (g : Vec Ideal S1x1024 .f32) (r : Fin 512) (d : Fin 1024) :
    k0_pay6 ya yb ga ma gb mb x wo g (ix2 r d)
      = rms (fun e => k0_pay5 ya yb ga ma gb mb x wo (ix2 r e)) (fun e => g (ix2 0 e)) d := by
  pointwise [k0_pay6, rms]

theorem pay7_apply (ya yb ga : Vec Ideal S512x1024 .f32) (ma : Vec Ideal S1x1024 .f32) (gb : Vec Ideal S512x1024 .bf16)
    (mb : Vec Ideal S1x1024 .f32) (x : Vec Ideal S512x1024 .f32) (wo : Vec Ideal S1024x1024 .bf16)
    (g : Vec Ideal S1x1024 .f32) (p q : Vec Ideal S1024x768 .bf16) (r : Fin 512) (f : Fin 768) :
    k0_pay7 ya yb ga ma gb mb x wo g p q (ix2 r f)
      = unit (fun k => k0_pay6 ya yb ga ma gb mb x wo g (ix2 r k)) (fun k => p (ix2 k f)) (fun k => q (ix2 k f)) := by
  pointwise [k0_pay7, unit]

theorem pay9_apply (v : Vec Ideal S512x1024 .bf16) (p q : Vec Ideal S1024x512 .bf16) (r : Fin 512) (f : Fin 512) :
    k0_pay9 v p q (ix2 r f) = unit (fun k => v (ix2 r k)) (fun k => p (ix2 k f)) (fun k => q (ix2 k f)) := by
  pointwise [k0_pay9, unit]

theorem pay8_apply (h : Vec Ideal S512x1024 .f32) (v : Vec Ideal S512x1024 .bf16) (u : Vec Ideal S512x768 .f32)
    (w0 : Vec Ideal S768x1024 .bf16) (p1 q1 : Vec Ideal S1024x768 .bf16) (w1 : Vec Ideal S768x1024 .bf16)
    (p2 q2 : Vec Ideal S1024x768 .bf16) (w2 : Vec Ideal S768x1024 .bf16) (r : Fin 512) (d : Fin 1024) :
    k0_pay8 h v u w0 p1 q1 w1 p2 q2 w2 (ix2 r d)
      = h (ix2 r d) + (∑ f : Fin 768, u (ix2 r f) * w0 (ix2 f d))
        + (∑ f : Fin 768, unit (fun k => v (ix2 r k)) (fun k => p1 (ix2 k f)) (fun k => q1 (ix2 k f)) * w1 (ix2 f d))
        + (∑ f : Fin 768, unit (fun k => v (ix2 r k)) (fun k => p2 (ix2 k f)) (fun k => q2 (ix2 k f)) * w2 (ix2 f d)) := by
  pointwise [k0_pay8, unit]

theorem pay1_apply (h : Vec Ideal S512x1024 .f32) (u : Vec Ideal S512x512 .f32) (w : Vec Ideal S512x1024 .bf16)
    (g : Vec Ideal S1x1024 .f32) (r : Fin 512) (d : Fin 1024) :
    k0_pay1 h u w g (ix2 r d)
      = rms (fun e => h (ix2 r e) + ∑ f : Fin 512, u (ix2 r f) * w (ix2 f e)) (fun e => g (ix2 0 e)) d := by
  pointwise [k0_pay1, rms]

end Cert.Mix

end
-- ==== Proof.MixBlock.lean ====
module

public import proofs.«01_k».proof.Proof.MixRows

@[expose] public section

set_option maxRecDepth 16384

noncomputable section

namespace Cert.Mix

open Idealize.ShloMosaic Cert.Kernel2Ideal Cert.Kernel2Ideal.Gen

/-- The attention rows lie as eight slabs of 128 columns: column `j` of the row is column `j % 128` of slab `j / 128`. -/
theorem pay2_apply (a : Vec Ideal S8x512x128 .bf16) (w : Vec Ideal S1024x1024 .bf16) (r : Fin 512) (d : Fin 1024) :
    k0_pay2 (View.ld a r0_0) (View.ld a r0_1) (View.ld a r0_2) (View.ld a r0_3) (View.ld a r0_4) (View.ld a r0_5)
        (View.ld a r0_6) (View.ld a r0_7) w (ix2 r d)
      = ∑ j : Fin 1024, a (ix3 ⟨j.val / 128, by omega⟩ r ⟨j.val % 128, by omega⟩) * w (ix2 j d) := by
  pointwise [k0_pay2]
  refine Finset.sum_congr rfl fun j _ => congrArg (· * w (ix2 j d)) ?_
  have hj := j.isLt
  split_ifs <;> (refine congrArg a ?_; rw [ix3_inj]; refine ⟨Fin.ext ?_, rfl, Fin.ext ?_⟩ <;> simp <;> omega)

theorem hz2 : (![0, 0] : Fin 2 → Nat) = fun _ => 0 := funext fun a => by fin_cases a <;> rfl

section
variable (x0 : Vec Ideal S512x1024 .f32) (x1 : Vec Ideal S8x512x128 .bf16) (x2 x3 x4 : Vec Ideal S512x1024 .bf16)
  (x5 : Vec Ideal S1x2048 .f32) (x6 x7 x8 : Vec Ideal S1024x1024 .bf16) (x9 : Vec Ideal S1x1024 .f32)
  (x10 : Vec Ideal S1024x5632 .bf16) (x11 : Vec Ideal S2816x1024 .bf16) (x12 : Vec Ideal S1x1024 .f32)

/-- The merged row `r` of one block, from the block's arguments. -/
def blockRow (r : Fin 512) : Fin 1024 → EReal :=
  merged (fun d => x0 (ix2 r d)) (fun j => x1 (ix3 ⟨j.val / 128, by omega⟩ r ⟨j.val % 128, by omega⟩))
    (fun j => x2 (ix2 r j)) (fun k => x3 (ix2 r k)) (fun k => x4 (ix2 r k))
    (fun k => x5 (ix2 0 ⟨k.val, by omega⟩)) (fun k => x5 (ix2 0 ⟨1024 + k.val, by omega⟩))
    (fun j k => x6 (ix2 j k)) (fun j k => x7 (ix2 j k)) (fun k d => x8 (ix2 k d))

theorem h_apply (r : Fin 512) (d : Fin 1024) :
    k0_pay5 (k0_pay10 x0 x1 x2 x3 x4 x5 x6 x7 x8 x9 x10 x11 x12) (k0_pay11 x0 x1 x2 x3 x4 x5 x6 x7 x8 x9 x10 x11 x12)
        (k0_pay12 x0 x1 x2 x3 x4 x5 x6 x7 x8 x9 x10 x11 x12) (View.ld x5 r0_10) (View.ld x4 r0_9) (View.ld x5 r0_11)
        (View.ld x0 r0_9) (View.ld x8 r0_8) (ix2 r d)
      = blockRow x0 x1 x2 x3 x4 x5 x6 x7 x8 r d := by
  rw [pay5_apply]
  unfold k0_pay10 k0_pay11 k0_pay12 blockRow merged
  simp only [pay2_apply, pay3_apply]
  pointwise [k0_pay4]

/-- Sum over the 2816 hidden units in the order the body takes them: three runs of 768 and one of 512. -/
theorem sum_cut (F : Fin 2816 → EReal) (h : EReal) :
    h + ∑ f, F f = h + (∑ f : Fin 768, F ⟨f.val, by omega⟩) + (∑ f : Fin 768, F ⟨768 + f.val, by omega⟩)
      + (∑ f : Fin 768, F ⟨1536 + f.val, by omega⟩) + ∑ f : Fin 512, F ⟨2304 + f.val, by omega⟩ := by
  rw [Fin.sum_univ_two_halves 2304 512 rfl, Fin.sum_univ_two_halves 1536 768 rfl, Fin.sum_univ_two_halves 768 768 rfl]
  simp only [add_assoc]

/-- What the body leaves in a block: every row is the result row of that row's merged stream. -/
theorem out_apply (r : Fin 512) (d : Fin 1024) :
    out0_13 x0 x1 x2 x3 x4 x5 x6 x7 x8 x9 x10 x11 x12 (ix2 r d)
      = outRow (blockRow x0 x1 x2 x3 x4 x5 x6 x7 x8 r) (fun e => x9 (ix2 0 e)) (fun e => x12 (ix2 0 e))
          (fun k f => x10 (ix2 k f)) (fun f e => x11 (ix2 f e)) d := by
  unfold out0_13
  rw [View.canon_unit_zero hz2, pay1_apply]
  unfold outRow
  have hv : ∀ k, k0_pay13 x0 x1 x2 x3 x4 x5 x6 x7 x8 x9 x10 x11 x12 (ix2 r k)
      = rms (blockRow x0 x1 x2 x3 x4 x5 x6 x7 x8 r) (fun e => x9 (ix2 0 e)) k := by
    intro k
    unfold k0_pay13
    rw [pay6_apply, View.ld_unit_zero hz2 _ x9]
    exact congrArg (fun v => rms v _ k) (funext fun e => h_apply x0 x1 x2 x3 x4 x5 x6 x7 x8 x9 x10 x11 x12 r e)
  refine congrArg₂ (fun v g => rms v g d) (funext fun e => ?_) (by rw [View.ld_unit_zero hz2])
  rw [sum_cut, pay8_apply, h_apply]
  simp only [pay7_apply, pay9_apply, hv, hidden]
  have hp : ∀ k, k0_pay6 (k0_pay10 x0 x1 x2 x3 x4 x5 x6 x7 x8 x9 x10 x11 x12) (k0_pay11 x0 x1 x2 x3 x4 x5 x6 x7 x8 x9 x10 x11 x12)
      (k0_pay12 x0 x1 x2 x3 x4 x5 x6 x7 x8 x9 x10 x11 x12) (View.ld x5 r0_10) (View.ld x4 r0_9) (View.ld x5 r0_11)
      (View.ld x0 r0_9) (View.ld x8 r0_8) (View.ld x9 r0_12) (ix2 r k) = rms (blockRow x0 x1 x2 x3 x4 x5 x6 x7 x8 r) (fun e => x9 (ix2 0 e)) k := hv
  simp only [hp]
  pointwise
  simp only [← Nat.add_assoc, Nat.reduceAdd]
end

end Cert.Mix

end
-- ==== Proof.MixReference.lean ====
module

public import proofs.«01_k».proof.Proof.MixRows
public import proofs.«01_k».proof.Proof.Gen.Reference2Ideal.Run

@[expose] public section

set_option maxRecDepth 16384

noncomputable section

namespace Cert.Mix.Host

open Idealize.ShloMosaic Idealize.ShloMosaic.TcCoe Cert.Reference2Ideal Cert.Reference2Ideal.Gen

/-- The host's merged stream, from its arguments. -/
def stream (x : FVec Ideal S16384x1024 .f32) (a : FVec Ideal S8x16384x128 .bf16) (b : FVec Ideal S16384x1024 .bf16)
    (g : FVec Ideal S16384x2048 .bf16) (m : FVec Ideal S1x2048 .f32) (wa wb wo : FVec Ideal S1024x1024 .bf16) :
    FVec Ideal S16384x1024 .f32 :=
  have g1 : FVec Ideal S16384x2048 .f32 := addf (extf .f32 g bitsLt_bf16_f32) (broadcastInDim S16384x2048 ![0, 1] bcast_S1x2048_S16384x2048_0_1 m)
  have one : FVec Ideal S16384x2048 .f32 := broadcastInDim S16384x2048 ![] bcast_S_S16384x2048 (constant S_ .f32 0x3F800000#32)
  have s : FVec Ideal S16384x2048 .f32 := Host.divf one (addf one (Host.exp (Host.negf g1)))
  have a1 : FVec Ideal S16384x1024 .f32 := shapeCast _ (transpose S16384x8x128 [1, 0, 2] (extf .f32 a bitsLt_bf16_f32) transposes_S8x16384x128_S16384x8x128_1_0_2) shapeCasts_S16384x8x128_S16384x1024
  have ya : FVec Ideal S16384x1024 .f32 := Host.dotGeneral dot_S16384x1024_S1024x1024_S16384x1024_1_0_0_1_n_n none a1 (extf .f32 wa bitsLt_bf16_f32)
  have yb : FVec Ideal S16384x1024 .f32 := Host.dotGeneral dot_S16384x1024_S1024x1024_S16384x1024_1_0_0_1_n_n none (extf .f32 b bitsLt_bf16_f32) (extf .f32 wb bitsLt_bf16_f32)
  addf x (Host.dotGeneral dot_S16384x1024_S1024x1024_S16384x1024_1_0_0_1_n_n none
    (addf (mulf (extractStridedSlice S16384x1024 ![0, 0] s slices_S16384x2048_S16384x1024_0_0) ya)
      (mulf (extractStridedSlice S16384x1024 ![0, 1024] s slices_S16384x2048_S16384x1024_0_1024) yb)) (extf .f32 wo bitsLt_bf16_f32))

/-- The host's RMSNorm of a whole array. -/
def norm (h : FVec Ideal S16384x1024 .f32) (g : FVec Ideal S1x1024 .f32) : FVec Ideal S16384x1024 .f32 :=
  mulf (mulf h (broadcastInDim S16384x1024 ![0, 1] bcast_S16384x1_S16384x1024_0_1 (Host.rsqrt (addf (Host.divf
      (broadcastInDim S16384x1 ![0] bcast_S16384_S16384x1_0 (Host.reduceAdd (mulf h h) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 g)

/-- The host's feed-forward layer of a whole array of rows. -/
def ffn (v : FVec Ideal S16384x1024 .f32) (win : FVec Ideal S1024x5632 .bf16) (wout : FVec Ideal S2816x1024 .bf16) :
    FVec Ideal S16384x1024 .f32 :=
  have p : FVec Ideal S16384x5632 .f32 := Host.dotGeneral dot_S16384x1024_S1024x5632_S16384x5632_1_0_0_1_n_n none v (extf .f32 win bitsLt_bf16_f32)
  have g : FVec Ideal S16384x2816 .f32 := extractStridedSlice S16384x2816 ![0, 0] p slices_S16384x5632_S16384x2816_0_0
  have u : FVec Ideal S16384x2816 .f32 := extractStridedSlice S16384x2816 ![0, 2816] p slices_S16384x5632_S16384x2816_0_2816
  have one : FVec Ideal S16384x2816 .f32 := broadcastInDim S16384x2816 ![] bcast_S_S16384x2816 (constant S_ .f32 0x3F800000#32)
  Host.dotGeneral dot_S16384x2816_S2816x1024_S16384x1024_1_0_0_1_n_n none
    (mulf (mulf g (Host.divf one (addf one (Host.exp (Host.negf g))))) u) (extf .f32 wout bitsLt_bf16_f32)

theorem stream_apply (x : FVec Ideal S16384x1024 .f32) (a : FVec Ideal S8x16384x128 .bf16) (b : FVec Ideal S16384x1024 .bf16)
    (g : FVec Ideal S16384x2048 .bf16) (m : FVec Ideal S1x2048 .f32) (wa wb wo : FVec Ideal S1024x1024 .bf16)
    (t : Fin 16384) (d : Fin 1024) :
    stream x a b g m wa wb wo (ix2 t d)
      = merged (fun d => x (ix2 t d)) (fun j => a (ix3 ⟨j.val / 128, by omega⟩ t ⟨j.val % 128, by omega⟩))
          (fun j => b (ix2 t j)) (fun k => g (ix2 t ⟨k.val, by omega⟩)) (fun k => g (ix2 t ⟨1024 + k.val, by omega⟩))
          (fun k => m (ix2 0 ⟨k.val, by omega⟩)) (fun k => m (ix2 0 ⟨1024 + k.val, by omega⟩))
          (fun j k => wa (ix2 j k)) (fun j k => wb (ix2 j k)) (fun k d => wo (ix2 k d)) d := by
  pointwise [stream, merged, Ideal.logistic]

theorem norm_apply (h : FVec Ideal S16384x1024 .f32) (g : FVec Ideal S1x1024 .f32) (t : Fin 16384) (d : Fin 1024) :
    norm h g (ix2 t d) = rms (fun e => h (ix2 t e)) (fun e => g (ix2 0 e)) d := by
  pointwise [norm, rms]

theorem ffn_apply (v : FVec Ideal S16384x1024 .f32) (win : FVec Ideal S1024x5632 .bf16) (wout : FVec Ideal S2816x1024 .bf16)
    (t : Fin 16384) (d : Fin 1024) :
    ffn v win wout (ix2 t d)
      = ∑ f : Fin 2816, hidden (fun k => v (ix2 t k)) (fun k f => win (ix2 k f)) f * wout (ix2 f d) := by
  pointwise [ffn, hidden, unit, Ideal.logistic]

variable (m : (ℓ : Loc nD τ sig) → Buf (Elt Ideal) ℓ)

/-- The stream of device `c`'s arguments. -/
abbrev streamOf (c : Dev nD) : FVec Ideal S16384x1024 .f32 :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The reference's result is these stages composed. -/
theorem result_eq (c : Dev nD) : Cert.Reference2Ideal.Value.res_out0 m c
    = norm (addf (streamOf m c) (ffn (norm (streamOf m c) (m ((c : Thread nD τ).loc main_arg8))) (m ((c : Thread nD τ).loc main_arg9))
        (m ((c : Thread nD τ).loc main_arg10)))) (m ((c : Thread nD τ).loc main_arg11)) := rfl

theorem result_apply (c : Dev nD) (t : Fin 16384) (d : Fin 1024) : Cert.Reference2Ideal.Value.res_out0 m c (ix2 t d)
    = outRow (fun e => streamOf m c (ix2 t e)) (fun e => (m ((c : Thread nD τ).loc main_arg8)) (ix2 0 e))
        (fun e => (m ((c : Thread nD τ).loc main_arg11)) (ix2 0 e)) (fun k f => (m ((c : Thread nD τ).loc main_arg9)) (ix2 k f))
        (fun f e => (m ((c : Thread nD τ).loc main_arg10)) (ix2 f e)) d := by
  rw [result_eq]
  generalize streamOf m c = h
  rw [norm_apply]
  unfold outRow
  refine congrArg (fun v => rms v _ d) (funext fun e => ?_)
  rw [show ∀ (u w : FVec Ideal S16384x1024 .f32) i, addf u w i = u i + w i from fun _ _ _ => rfl, ffn_apply]
  refine congrArg (h (ix2 t e) + ·) (Finset.sum_congr rfl fun f _ => congrArg (· * _) ?_)
  exact congrArg (fun v => hidden v _ f) (funext fun k => norm_apply h _ t k)

end Cert.Mix.Host

end
-- ==== Proof.MixArray.lean ====
module

public import proofs.«01_k».proof.Proof.MixBlock
public import proofs.«01_k».proof.Proof.MixReference
public import proofs.«01_k».proof.Proof.Gen.Kernel2Ideal.Value

@[expose] public section

set_option maxRecDepth 16384

noncomputable section

namespace Cert.Mix

open Idealize.ShloMosaic Idealize.ShloMosaic.TcCoe Cert.Kernel2Ideal Cert.Kernel2Ideal.Gen
open Idealize.ShloMosaic.Pipeline (Dat)

variable (m : (ℓ : Loc nD τ sig) → Buf (Elt Ideal) ℓ)

/-! ## Where each window's block lies in its array -/

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

theorem index4 : ∀ t : Fin cfg0.N, win0_4.index t 0 = t.val ∧ win0_4.index t 1 = 1 :=
  (by decide +kernel : ∀ t : Fin grid0.N, win0_4.index t 0 = t.val ∧ win0_4.index t 1 = 1)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index9 : ∀ t : Fin cfg0.N, win0_9.index t 0 = 0 ∧ win0_9.index t 1 = 0 :=
  (by decide +kernel : ∀ t : Fin grid0.N, win0_9.index t 0 = 0 ∧ win0_9.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

theorem index11 : ∀ t : Fin cfg0.N, win0_11.index t 0 = 0 ∧ win0_11.index t 1 = 0 :=
  (by decide +kernel : ∀ t : Fin grid0.N, win0_11.index t 0 = 0 ∧ win0_11.index t 1 = 0)

theorem index12 : ∀ t : Fin cfg0.N, win0_12.index t 0 = 0 ∧ win0_12.index t 1 = 0 :=
  (by decide +kernel : ∀ t : Fin grid0.N, win0_12.index t 0 = 0 ∧ win0_12.index t 1 = 0)

theorem index13 : ∀ t : Fin cfg0.N, win0_13.index t 0 = t.val ∧ win0_13.index t 1 = 0 :=
  (by decide +kernel : ∀ t : Fin grid0.N, win0_13.index t 0 = t.val ∧ win0_13.index t 1 = 0)

theorem t_lt (t : Fin cfg0.N) : t.val < 32 := t.isLt.trans_eq (show cfg0.N = 32 from N_0)

theorem block0 (c : Dev nD) (t : Fin cfg0.N) (i : Fin 512) (j : Fin 1024) :
    (iblk m c 0 t : Vec Ideal S512x1024 _) (ix2 i j) = (m ((c : Thread nD τ).loc main_arg0)) (ix2 ⟨512 * t.val + i.val, by have := t_lt t; omega⟩ j) := by
  have e := index0 t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t 0 * 512 + 1 * i.val = 512 * t.val + i.val; rw [e.1]; omega
  | ⟨1, _⟩ => show win0_0.index t 1 * 1024 + 1 * j.val = j.val; rw [e.2]; omega

theorem block1 (c : Dev nD) (t : Fin cfg0.N) (i : Fin 8) (j : Fin 512) (k : Fin 128) :
    (iblk m c 1 t : Vec Ideal S8x512x128 _) (ix3 i j k) = (m ((c : Thread nD τ).loc main_arg1)) (ix3 i ⟨512 * t.val + j.val, by have := t_lt t; omega⟩ k) := by
  have e := index1 t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t 0 * 8 + 1 * i.val = i.val; rw [e.1]; omega
  | ⟨1, _⟩ => show win0_1.index t 1 * 512 + 1 * j.val = 512 * t.val + j.val; rw [e.2.1]; omega
  | ⟨2, _⟩ => show win0_1.index t 2 * 128 + 1 * k.val = k.val; rw [e.2.2]; omega

theorem block2 (c : Dev nD) (t : Fin cfg0.N) (i : Fin 512) (j : Fin 1024) :
    (iblk m c 2 t : Vec Ideal S512x1024 _) (ix2 i j) = (m ((c : Thread nD τ).loc main_arg2)) (ix2 ⟨512 * t.val + i.val, by have := t_lt t; omega⟩ j) := by
  have e := index2 t
  unfold iblk
  rw [View.read_apply]
  show V m c main_arg2 _ = _
  rw [V_main_arg2 m c]
  refine congrArg (m ((c : Thread nD τ).loc main_arg2)) (funext fun a => Fin.ext ?_)
  match a with
  | ⟨0, _⟩ => show win0_2.index t 0 * 512 + 1 * i.val = 512 * t.val + i.val; rw [e.1]; omega
  | ⟨1, _⟩ => show win0_2.index t 1 * 1024 + 1 * j.val = j.val; rw [e.2]; omega

theorem block3 (c : Dev nD) (t : Fin cfg0.N) (i : Fin 512) (j : Fin 1024) :
    (iblk m c 3 t : Vec Ideal S512x1024 _) (ix2 i j) = (m ((c : Thread nD τ).loc main_arg3)) (ix2 ⟨512 * t.val + i.val, by have := t_lt t; omega⟩ ⟨j.val, by omega⟩) := by
  have e := index3 t
  unfold iblk
  rw [View.read_apply]
  show V m c main_arg3 _ = _
  rw [V_main_arg3 m c]
  refine congrArg (m ((c : Thread nD τ).loc main_arg3)) (funext fun a => Fin.ext ?_)
  match a with
  | ⟨0, _⟩ => show win0_3.index t 0 * 512 + 1 * i.val = 512 * t.val + i.val; rw [e.1]; omega
  | ⟨1, _⟩ => show win0_3.index t 1 * 1024 + 1 * j.val = j.val; rw [e.2]; omega

theorem block4 (c : Dev nD) (t : Fin cfg0.N) (i : Fin 512) (j : Fin 1024) :
    (iblk m c 4 t : Vec Ideal S512x1024 _) (ix2 i j) = (m ((c : Thread nD τ).loc main_arg3)) (ix2 ⟨512 * t.val + i.val, by have := t_lt t; omega⟩ ⟨1024 + j.val, by omega⟩) := by
  have e := index4 t
  unfold iblk
  rw [View.read_apply]
  show V m c main_arg3 _ = _
  rw [V_main_arg3 m c]
  refine congrArg (m ((c : Thread nD τ).loc main_arg3)) (funext fun a => Fin.ext ?_)
  match a with
  | ⟨0, _⟩ => show win0_4.index t 0 * 512 + 1 * i.val = 512 * t.val + i.val; rw [e.1]; omega
  | ⟨1, _⟩ => show win0_4.index t 1 * 1024 + 1 * j.val = 1024 + j.val; rw [e.2]; omega

theorem block5 (c : Dev nD) (t : Fin cfg0.N) (i : Fin 1) (j : Fin 2048) :
    (iblk m c 5 t : Vec Ideal S1x2048 _) (ix2 i j) = (m ((c : Thread nD τ).loc main_arg4)) (ix2 i j) := by
  have e := index5 t
  unfold iblk
  rw [View.read_apply]
  show V m c main_arg4 _ = _
  rw [V_main_arg4 m c]
  refine congrArg (m ((c : Thread nD τ).loc main_arg4)) (funext fun a => Fin.ext ?_)
  match a with
  | ⟨0, _⟩ => show win0_5.index t 0 * 1 + 1 * i.val = i.val; rw [e.1]; omega
  | ⟨1, _⟩ => show win0_5.index t 1 * 2048 + 1 * j.val = j.val; rw [e.2]; omega

theorem block6 (c : Dev nD) (t : Fin cfg0.N) (i : Fin 1024) (j : Fin 1024) :
    (iblk m c 6 t : Vec Ideal S1024x1024 _) (ix2 i j) = (m ((c : Thread nD τ).loc main_arg5)) (ix2 i j) := by
  have e := index6 t
  unfold iblk
  rw [View.read_apply]
  show V m c main_arg5 _ = _
  rw [V_main_arg5 m c]
  refine congrArg (m ((c : Thread nD τ).loc main_arg5)) (funext fun a => Fin.ext ?_)
  match a with
  | ⟨0, _⟩ => show win0_6.index t 0 * 1024 + 1 * i.val = i.val; rw [e.1]; omega
  | ⟨1, _⟩ => show win0_6.index t 1 * 1024 + 1 * j.val = j.val; rw [e.2]; omega

theorem block7 (c : Dev nD) (t : Fin cfg0.N) (i : Fin 1024) (j : Fin 1024) :
    (iblk m c 7 t : Vec Ideal S1024x1024 _) (ix2 i j) = (m ((c : Thread nD τ).loc main_arg6)) (ix2 i j) := by
  have e := index7 t
  unfold iblk
  rw [View.read_apply]
  show V m c main_arg6 _ = _
  rw [V_main_arg6 m c]
  refine congrArg (m ((c : Thread nD τ).loc main_arg6)) (funext fun a => Fin.ext ?_)
  match a with
  | ⟨0, _⟩ => show win0_7.index t 0 * 1024 + 1 * i.val = i.val; rw [e.1]; omega
  | ⟨1, _⟩ => show win0_7.index t 1 * 1024 + 1 * j.val = j.val; rw [e.2]; omega

theorem block8 (c : Dev nD) (t : Fin cfg0.N) (i : Fin 1024) (j : Fin 1024) :
    (iblk m c 8 t : Vec Ideal S1024x1024 _) (ix2 i j) = (m ((c : Thread nD τ).loc main_arg7)) (ix2 i j) := by
  have e := index8 t
  unfold iblk
  rw [View.read_apply]
  show V m c main_arg7 _ = _
  rw [V_main_arg7 m c]
  refine congrArg (m ((c : Thread nD τ).loc main_arg7)) (funext fun a => Fin.ext ?_)
  match a with
  | ⟨0, _⟩ => show win0_8.index t 0 * 1024 + 1 * i.val = i.val; rw [e.1]; omega
  | ⟨1, _⟩ => show win0_8.index t 1 * 1024 + 1 * j.val = j.val; rw [e.2]; omega

theorem block9 (c : Dev nD) (t : Fin cfg0.N) (i : Fin 1) (j : Fin 1024) :
    (iblk m c 9 t : Vec Ideal S1x1024 _) (ix2 i j) = (m ((c : Thread nD τ).loc main_arg8)) (ix2 i j) := by
  have e := index9 t
  unfold iblk
  rw [View.read_apply]
  show V m c main_arg8 _ = _
  rw [V_main_arg8 m c]
  refine congrArg (m ((c : Thread nD τ).loc main_arg8)) (funext fun a => Fin.ext ?_)
  match a with
  | ⟨0, _⟩ => show win0_9.index t 0 * 1 + 1 * i.val = i.val; rw [e.1]; omega
  | ⟨1, _⟩ => show win0_9.index t 1 * 1024 + 1 * j.val = j.val; rw [e.2]; omega

theorem block10 (c : Dev nD) (t : Fin cfg0.N) (i : Fin 1024) (j : Fin 5632) :
    (iblk m c 10 t : Vec Ideal S1024x5632 _) (ix2 i j) = (m ((c : Thread nD τ).loc main_arg9)) (ix2 i j) := by
  have e := index10 t
  unfold iblk
  rw [View.read_apply]
  show V m c main_arg9 _ = _
  rw [V_main_arg9 m c]
  refine congrArg (m ((c : Thread nD τ).loc main_arg9)) (funext fun a => Fin.ext ?_)
  match a with
  | ⟨0, _⟩ => show win0_10.index t 0 * 1024 + 1 * i.val = i.val; rw [e.1]; omega
  | ⟨1, _⟩ => show win0_10.index t 1 * 5632 + 1 * j.val = j.val; rw [e.2]; omega

theorem block11 (c : Dev nD) (t : Fin cfg0.N) (i : Fin 2816) (j : Fin 1024) :
    (iblk m c 11 t : Vec Ideal S2816x1024 _) (ix2 i j) = (m ((c : Thread nD τ).loc main_arg10)) (ix2 i j) := by
  have e := index11 t
  unfold iblk
  rw [View.read_apply]
  show V m c main_arg10 _ = _
  rw [V_main_arg10 m c]
  refine congrArg (m ((c : Thread nD τ).loc main_arg10)) (funext fun a => Fin.ext ?_)
  match a with
  | ⟨0, _⟩ => show win0_11.index t 0 * 2816 + 1 * i.val = i.val; rw [e.1]; omega
  | ⟨1, _⟩ => show win0_11.index t 1 * 1024 + 1 * j.val = j.val; rw [e.2]; omega

theorem block12 (c : Dev nD) (t : Fin cfg0.N) (i : Fin 1) (j : Fin 1024) :
    (iblk m c 12 t : Vec Ideal S1x1024 _) (ix2 i j) = (m ((c : Thread nD τ).loc main_arg11)) (ix2 i j) := by
  have e := index12 t
  unfold iblk
  rw [View.read_apply]
  show V m c main_arg11 _ = _
  rw [V_main_arg11 m c]
  refine congrArg (m ((c : Thread nD τ).loc main_arg11)) (funext fun a => Fin.ext ?_)
  match a with
  | ⟨0, _⟩ => show win0_12.index t 0 * 1 + 1 * i.val = i.val; rw [e.1]; omega
  | ⟨1, _⟩ => show win0_12.index t 1 * 1024 + 1 * j.val = j.val; rw [e.2]; omega

/-- The merged row `i` of the whole result, from the kernel's arguments. -/
def row (c : Dev nD) (i : Fin 16384) : Fin 1024 → EReal :=
  merged (fun d => (m ((c : Thread nD τ).loc main_arg0)) (ix2 i d))
    (fun j => (m ((c : Thread nD τ).loc main_arg1)) (ix3 ⟨j.val / 128, by omega⟩ i ⟨j.val % 128, by omega⟩))
    (fun j => (m ((c : Thread nD τ).loc main_arg2)) (ix2 i j))
    (fun k => (m ((c : Thread nD τ).loc main_arg3)) (ix2 i ⟨k.val, by omega⟩))
    (fun k => (m ((c : Thread nD τ).loc main_arg3)) (ix2 i ⟨1024 + k.val, by omega⟩))
    (fun k => (m ((c : Thread nD τ).loc main_arg4)) (ix2 0 ⟨k.val, by omega⟩))
    (fun k => (m ((c : Thread nD τ).loc main_arg4)) (ix2 0 ⟨1024 + k.val, by omega⟩))
    (fun j k => (m ((c : Thread nD τ).loc main_arg5)) (ix2 j k)) (fun j k => (m ((c : Thread nD τ).loc main_arg6)) (ix2 j k))
    (fun k d => (m ((c : Thread nD τ).loc main_arg7)) (ix2 k d))

/-- The result array, index by index. -/
def result (c : Dev nD) : Buf (Elt Ideal) ((c : Thread nD τ).loc main_v0) := fun i : S16384x1024.Idx =>
  outRow (row m c (i 0)) (fun e => (m ((c : Thread nD τ).loc main_arg8)) (ix2 0 e))
    (fun e => (m ((c : Thread nD τ).loc main_arg11)) (ix2 0 e)) (fun k f => (m ((c : Thread nD τ).loc main_arg9)) (ix2 k f))
    (fun f e => (m ((c : Thread nD τ).loc main_arg10)) (ix2 f e)) (i 1)

/-- What the body leaves at row `r` of its block is row `512 t + r` of the result. -/
theorem out_block (c : Dev nD) (t : Fin cfg0.N) (r : Fin 512) (d : Fin 1024) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r d)
      = result m c (ix2 ⟨512 * t.val + r.val, by have := t_lt t; omega⟩ d) := by
  refine (out_apply _ _ _ _ _ _ _ _ _ _ _ _ _ r d).trans ?_
  unfold blockRow result row
  simp only [block0, block1, block2, block3, block4, block5, block6, block7, block8, block9, block10, block11, block12]
  rfl

theorem flushed_eq (c : Dev nD) (t : Fin cfg0.N) :
    (dats m 0 c).flushed 13 t = (win0_13.blk t).view.read (Elt Ideal) (result m c) := by
  rw [Value.flushed13 m c t]
  refine funext fun j : S512x1024.Idx => ?_
  obtain ⟨e0, e1⟩ := index13 t
  rw [View.read_apply]
  have hj : j = ix2 (j 0) (j 1) := eq_ix2 j
  refine (congrArg (out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)) hj).trans
    ((out_block m c t (j 0) (j 1)).trans ?_)
  refine congrArg (result m c) (funext fun a => Fin.ext ?_)
  match a with
  | ⟨0, _⟩ => show 512 * t.val + (j 0).val = win0_13.index t 0 * 512 + 1 * (j 0).val; rw [e0]; omega
  | ⟨1, _⟩ => show (j 1).val = win0_13.index t 1 * 1024 + 1 * (j 1).val; rw [e1]; omega

theorem cover (i : S16384x1024.Idx) :
    ∃ t : Fin cfg0.N, (cfg0.win 13).flush t = true ∧ i ∈ ((cfg0.win 13).blk t).view.set := by
  have h0 : (i 0 : Nat) < 16384 := (i 0).isLt
  have h1 : (i 1 : Nat) < 1024 := (i 1).isLt
  have hN : cfg0.N = 32 := N_0
  obtain ⟨t, ht⟩ : ∃ t : Fin cfg0.N, t.val = (i 0 : Nat) / 512 := ⟨⟨(i 0 : Nat) / 512, by omega⟩, rfl⟩
  refine ⟨t, flush0_13 _, ?_⟩
  obtain ⟨e0, e1⟩ := index13 t
  show i ∈ ((View.whole main_v0).slice (win0_13.rect t)).set
  rw [View.set_slice_whole, Rect.mem_set_unit]
  intro a
  match a with
  | ⟨0, _⟩ =>
    show win0_13.index t 0 * 512 ≤ (i 0 : Nat) ∧ (i 0 : Nat) < win0_13.index t 0 * 512 + 512
    rw [e0, ht]; omega
  | ⟨1, _⟩ =>
    show win0_13.index t 1 * 1024 ≤ (i 1 : Nat) ∧ (i 1 : Nat) < win0_13.index t 1 * 1024 + 1024
    rw [e1]; omega

/-- The result array ends holding `result`. -/
theorem final (c : Dev nD) : (dats m 0 c).arrAt 13 cfg0.N = result m c :=
  (dats m 0 c).arrAt_eq_of_cover 13 (result m c) (fun t _ => flushed_eq m c t) cover

/-- The reference's result, from arguments that agree with the kernel's, is the same array. -/
theorem reference_eq (m' : (ℓ : Loc Cert.Reference2Ideal.nD Cert.Reference2Ideal.τ Cert.Reference2Ideal.sig) → Buf (Elt Ideal) ℓ)
    (c : Dev nD)
    (h0 : m' ((c.tc : Thread Cert.Reference2Ideal.nD Cert.Reference2Ideal.τ).loc Cert.Reference2Ideal.main_arg0) = m ((c : Thread nD τ).loc main_arg0))
    (h1 : m' ((c.tc : Thread Cert.Reference2Ideal.nD Cert.Reference2Ideal.τ).loc Cert.Reference2Ideal.main_arg1) = m ((c : Thread nD τ).loc main_arg1))
    (h2 : m' ((c.tc : Thread Cert.Reference2Ideal.nD Cert.Reference2Ideal.τ).loc Cert.Reference2Ideal.main_arg2) = m ((c : Thread nD τ).loc main_arg2))
    (h3 : m' ((c.tc : Thread Cert.Reference2Ideal.nD Cert.Reference2Ideal.τ).loc Cert.Reference2Ideal.main_arg3) = m ((c : Thread nD τ).loc main_arg3))
    (h4 : m' ((c.tc : Thread Cert.Reference2Ideal.nD Cert.Reference2Ideal.τ).loc Cert.Reference2Ideal.main_arg4) = m ((c : Thread nD τ).loc main_arg4))
    (h5 : m' ((c.tc : Thread Cert.Reference2Ideal.nD Cert.Reference2Ideal.τ).loc Cert.Reference2Ideal.main_arg5) = m ((c : Thread nD τ).loc main_arg5))
    (h6 : m' ((c.tc : Thread Cert.Reference2Ideal.nD Cert.Reference2Ideal.τ).loc Cert.Reference2Ideal.main_arg6) = m ((c : Thread nD τ).loc main_arg6))
    (h7 : m' ((c.tc : Thread Cert.Reference2Ideal.nD Cert.Reference2Ideal.τ).loc Cert.Reference2Ideal.main_arg7) = m ((c : Thread nD τ).loc main_arg7))
    (h8 : m' ((c.tc : Thread Cert.Reference2Ideal.nD Cert.Reference2Ideal.τ).loc Cert.Reference2Ideal.main_arg8) = m ((c : Thread nD τ).loc main_arg8))
    (h9 : m' ((c.tc : Thread Cert.Reference2Ideal.nD Cert.Reference2Ideal.τ).loc Cert.Reference2Ideal.main_arg9) = m ((c : Thread nD τ).loc main_arg9))
    (h10 : m' ((c.tc : Thread Cert.Reference2Ideal.nD Cert.Reference2Ideal.τ).loc Cert.Reference2Ideal.main_arg10) = m ((c : Thread nD τ).loc main_arg10))
    (h11 : m' ((c.tc : Thread Cert.Reference2Ideal.nD Cert.Reference2Ideal.τ).loc Cert.Reference2Ideal.main_arg11) = m ((c : Thread nD τ).loc main_arg11)) :
    Cert.Reference2Ideal.Value.res_out0 m' c = result m c := by
  refine funext fun i : S16384x1024.Idx => ?_
  have hi : i = ix2 (i 0) (i 1) := eq_ix2 i
  refine (congrArg (Cert.Reference2Ideal.Value.res_out0 m' c) hi).trans ((Host.result_apply m' c (i 0) (i 1)).trans ?_)
  unfold result row Host.streamOf
  rw [h0, h1, h2, h3, h4, h5, h6, h7, h8, h9, h10, h11]
  refine congrArg (fun v => outRow v _ _ _ _ (i 1)) (funext fun e => ?_)
  exact Host.stream_apply _ _ _ _ _ _ _ _ (i 0) e

end Cert.Mix

end
-- ==== Proof.InprojReference.lean ====
module

public import proofs.«01_k».proof.Proof.Gen.Reference3Ideal.Run
public import Idealize.ShloMosaic.Lib.Pointwise

@[expose] public section

set_option maxRecDepth 16384

noncomputable section

namespace Cert.Inproj

open Idealize.ShloMosaic Idealize.ShloMosaic.TcCoe

abbrev width : EReal := Ideal.ofBits .f32 0x44800000#32
abbrev eps : EReal := Ideal.ofBits .f32 0x358637BD#32
/-- The query scale: the logarithm of e to base two over the root of the head width. -/
abbrev scale : EReal := Ideal.ofBits .f32 0x3E38AA3B#32

/-- RMSNorm of one row `v` of 1024 entries, scaled by `g`. -/
def rms (v g : Fin 1024 → EReal) (d : Fin 1024) : EReal :=
  v d * Ideal.rsqrt (Ideal.div (∑ k, v k * v k) width + eps) * g d

/-- One entry of the projected row: the normalised row against one weight column. -/
def proj (v g w : Fin 1024 → EReal) : EReal := ∑ k, rms v g k * w k

/-- Entry `l` of slab `p` of the queries, keys and values: column `128 p + l` of the projection, the query slabs (the
    first eight) scaled. -/
def qkvEntry (v g : Fin 1024 → EReal) (w : Fin 1024 → Fin 7168 → EReal) (p : Fin 24) (l : Fin 128) : EReal :=
  if p.val < 8 then proj v g (fun k => w k ⟨128 * p.val + l.val, by omega⟩) * scale
  else proj v g (fun k => w k ⟨128 * p.val + l.val, by omega⟩)

/-- Entry `d` of the two gates: the projection's columns from 5120 on. -/
def gateEntry (v g : Fin 1024 → EReal) (w : Fin 1024 → Fin 7168 → EReal) (d : Fin 2048) : EReal :=
  proj v g (fun k => w k ⟨5120 + d.val, by omega⟩)

namespace Host

open Cert.Reference3Ideal Cert.Reference3Ideal.Gen

/-- The host's projection of the normalised rows. -/
def projected (x : FVec Ideal S16384x1024 .f32) (g : FVec Ideal S1x1024 .f32) (w : FVec Ideal S1024x7168 .f32) :
    FVec Ideal S16384x7168 .f32 :=
  have h : FVec Ideal S16384x1024 .f32 := mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 g)
  Host.dotGeneral dot_S16384x1024_S1024x7168_S16384x7168_1_0_0_1_n_n none h w

/-- The host's queries, keys and values, laid out in slabs of 128 columns. -/
def slabs (u : FVec Ideal S16384x7168 .f32) : FVec Ideal S24x16384x128 .bf16 :=
  have q : FVec Ideal S16384x1024 .f32 := mulf (extractStridedSlice S16384x1024 ![0, 0] u slices_S16384x7168_S16384x1024_0_0)
    (broadcastInDim S16384x1024 ![] bcast_S_S16384x1024 (constant S_ .f32 0x3E38AA3B#32))
  have c : FVec Ideal S16384x3072 .f32 := concatenate S16384x3072 1 [⟨S16384x1024, q⟩,
    ⟨S16384x1024, (extractStridedSlice S16384x1024 ![0, 1024] u slices_S16384x7168_S16384x1024_0_1024 : FVec Ideal S16384x1024 .f32)⟩,
    ⟨S16384x1024, (extractStridedSlice S16384x1024 ![0, 2048] u slices_S16384x7168_S16384x1024_0_2048 : FVec Ideal S16384x1024 .f32)⟩]
    concatenates_S16384x1024_S16384x1024_S16384x1024_S16384x3072_d1
  truncf .bf16 (transpose S24x16384x128 [1, 0, 2] (shapeCast _ c shapeCasts_S16384x3072_S16384x24x128) transposes_S16384x24x128_S24x16384x128_1_0_2) bitsLt_bf16_f32

theorem projected_apply (x : FVec Ideal S16384x1024 .f32) (g : FVec Ideal S1x1024 .f32) (w : FVec Ideal S1024x7168 .f32)
    (t : Fin 16384) (j : Fin 7168) :
    projected x g w (ix2 t j) = proj (fun e => x (ix2 t e)) (fun e => g (ix2 0 e)) (fun k => w (ix2 k j)) := by
  pointwise [projected, proj, rms]

theorem slabs_apply (u : FVec Ideal S16384x7168 .f32) (p : Fin 24) (t : Fin 16384) (l : Fin 128) :
    slabs u (ix3 p t l) = if p.val < 8 then u (ix2 t ⟨128 * p.val + l.val, by omega⟩) * scale
      else u (ix2 t ⟨128 * p.val + l.val, by omega⟩) := by
  pointwise [slabs]
  have hp := p.isLt
  have hl := l.isLt
  have e : ∀ a b : Fin 7168, a.val = b.val → u (ix2 t a) = u (ix2 t b) := fun a b h => by rw [Fin.ext h]
  by_cases h : p.val < 8
  · rw [if_pos h, dif_pos (by omega)]
    refine congrArg (· * _) (e _ _ ?_); show p.val * 128 + l.val = 128 * p.val + l.val; omega
  · rw [if_neg h, dif_neg (by omega)]
    by_cases h2 : p.val * 128 + l.val - 1024 < 1024
    · rw [dif_pos h2]
      refine e _ _ ?_; show 1024 + (p.val * 128 + l.val - 1024) = 128 * p.val + l.val; omega
    · rw [dif_neg h2]
      refine e _ _ ?_; show 2048 + (p.val * 128 + l.val - 1024 - 1024) = 128 * p.val + l.val; omega

theorem qkv_apply (x : FVec Ideal S16384x1024 .f32) (g : FVec Ideal S1x1024 .f32) (w : FVec Ideal S1024x7168 .f32)
    (p : Fin 24) (t : Fin 16384) (l : Fin 128) : slabs (projected x g w) (ix3 p t l)
    = qkvEntry (fun e => x (ix2 t e)) (fun e => g (ix2 0 e)) (fun k j => w (ix2 k j)) p l := by
  rw [slabs_apply, projected_apply]
  rfl

/-- The host's gates: the projection's last 2048 columns. -/
def gates (u : FVec Ideal S16384x7168 .f32) : FVec Ideal S16384x2048 .bf16 :=
  truncf .bf16 (extractStridedSlice S16384x2048 ![0, 5120] u slices_S16384x7168_S16384x2048_0_5120) bitsLt_bf16_f32

theorem gates_apply (x : FVec Ideal S16384x1024 .f32) (g : FVec Ideal S1x1024 .f32) (w : FVec Ideal S1024x7168 .f32)
    (t : Fin 16384) (d : Fin 2048) : gates (projected x g w) (ix2 t d)
    = gateEntry (fun e => x (ix2 t e)) (fun e => g (ix2 0 e)) (fun k j => w (ix2 k j)) d := by
  refine Eq.trans ?_ (projected_apply x g w t ⟨5120 + d.val, by omega⟩)
  generalize projected x g w = u
  pointwise [gates]

end Host

end Cert.Inproj

end
-- ==== Proof.InprojRows.lean ====
module

public import proofs.«01_k».proof.Proof.Gen.Kernel3Ideal.Skeleton
public import proofs.«01_k».proof.Proof.InprojReference
public import Idealize.ShloMosaic.Lib.Pipeline.Value
public import Idealize.ShloMosaic.Lib.Pipeline.ValueKit.Acc
public import Idealize.ShloMosaic.Lib.Pipeline.ReadBack
public import Idealize.ShloMosaic.Lib.Pointwise

@[expose] public section

set_option maxRecDepth 16384

noncomputable section

namespace Cert.Inproj

open Idealize.ShloMosaic Cert.Kernel3Ideal Cert.Kernel3Ideal.Gen

theorem hz2 : (![0, 0] : Fin 2 → Nat) = fun _ => 0 := funext fun a => by fin_cases a <;> rfl

/-! ## The rows of one block -/

/-- The normalised rows of one block. -/
def norm (x : Vec Ideal S512x1024 .f32) (g : Vec Ideal S1x1024 .f32) : FVec Ideal S512x1024 .bf16 := k0_pay61 x g

theorem norm_apply (x : Vec Ideal S512x1024 .f32) (g : Vec Ideal S1x1024 .f32) (r : Fin 512) (d : Fin 1024) :
    norm x g (ix2 r d) = rms (fun e => x (ix2 r e)) (fun e => g (ix2 0 e)) d := by
  pointwise [norm, k0_pay61, rms]

/-- The normalised rows against 256 columns of the weights. -/
def prod (X : Vec Ideal S512x1024 .bf16) (W : Vec Ideal S1024x256 .bf16) : FVec Ideal S512x256 .f32 :=
  matmul (φ₁ := .bf16) (φ₂ := .bf16) dot_S512x1024_S1024x256_S512x256_1_0_0_1_n_n none X W (constant S512x256 .f32 0x00000000#32)

/-- The same, scaled for the queries. -/
def prodQ (X : Vec Ideal S512x1024 .bf16) (W : Vec Ideal S1024x256 .bf16) : FVec Ideal S512x256 .f32 :=
  mulf (prod X W) (broadcast S512x256 (Scalar.ofBits .f32 0x3E38AA3B#32 : Ideal .f32))

/-- The left 128 of 256 columns, as one slab. -/
def lo (A : FVec Ideal S512x256 .f32) : FVec Ideal S1x512x128 .bf16 :=
  shapeCast S1x512x128 (truncf .bf16 (extractStridedSlice S512x128 ![0, 0] A slices_S512x256_o0_0_S512x128 : FVec Ideal S512x128 .f32) bitsLt_bf16_f32) shapeCasts_S512x128_S1x512x128

/-- The right 128 of 256 columns, as one slab. -/
def hi (A : FVec Ideal S512x256 .f32) : FVec Ideal S1x512x128 .bf16 :=
  shapeCast S1x512x128 (truncf .bf16 (extractStridedSlice S512x128 ![0, 128] A slices_S512x256_o0_128_S512x128 : FVec Ideal S512x128 .f32) bitsLt_bf16_f32) shapeCasts_S512x128_S1x512x128

theorem prod_apply (X : Vec Ideal S512x1024 .bf16) (W : Vec Ideal S1024x256 .bf16) (r : Fin 512) (j : Fin 256) :
    prod X W (ix2 r j) = ∑ k : Fin 1024, X (ix2 r k) * W (ix2 k j) := by
  pointwise [prod]

theorem prodQ_apply (X : Vec Ideal S512x1024 .bf16) (W : Vec Ideal S1024x256 .bf16) (r : Fin 512) (j : Fin 256) :
    prodQ X W (ix2 r j) = (∑ k : Fin 1024, X (ix2 r k) * W (ix2 k j)) * scale := by
  pointwise [prodQ, prod]

theorem lo_apply (A : FVec Ideal S512x256 .f32) (z : Fin 1) (r : Fin 512) (l : Fin 128) :
    lo A (ix3 z r l) = A (ix2 r ⟨l.val, by omega⟩) := by
  pointwise [lo]

theorem hi_apply (A : FVec Ideal S512x256 .f32) (z : Fin 1) (r : Fin 512) (l : Fin 128) :
    hi A (ix3 z r l) = A (ix2 r ⟨128 + l.val, by omega⟩) := by
  pointwise [hi]

variable (x : Vec Ideal S512x1024 .f32) (g : Vec Ideal S1x1024 .f32) (w : Vec Ideal S1024x7168 .bf16)

/-- The queries, keys and values of one block of rows. -/
def qkvBlock : Vec Ideal S24x512x128 .bf16 := fun y =>
  qkvEntry (fun e => x (ix2 (y 1) e)) (fun e => g (ix2 0 e)) (fun k j => w (ix2 k j)) (y 0) (y 2)

/-- The gates of one block of rows. -/
def gateBlock : Vec Ideal S512x2048 .bf16 := fun y =>
  gateEntry (fun e => x (ix2 (y 0) e)) (fun e => g (ix2 0 e)) (fun k j => w (ix2 k j)) (y 1)

/-- Column `j` of a tile of 256 columns from `c` on is column `c + j` of the projection. -/
theorem tile_apply (c : ℕ) (inb : ∀ a, (![0, c] : Fin 2 → ℕ) a + S1024x256.size a ≤ S1024x7168.size a) (r : Fin 512) (j : Fin 256)
    (n : Fin 7168) (hn : n.val = c + j.val) :
    (∑ k : Fin 1024, norm x g (ix2 r k) * (View.ld w (Rect.unit (s := S1024x7168) ![0, c] S1024x256.size inb) : Vec Ideal S1024x256 .bf16) (ix2 k j))
      = proj (fun e => x (ix2 r e)) (fun e => g (ix2 0 e)) (fun k => w (ix2 k n)) := by
  unfold proj
  refine Finset.sum_congr rfl fun k _ => ?_
  rw [norm_apply]
  refine congrArg (_ * ·) (congrArg w (funext fun a => Fin.ext ?_))
  match a with
  | ⟨0, _⟩ => show 0 + 1 * k.val = k.val; omega
  | ⟨1, _⟩ => show c + 1 * j.val = n.val; omega

section Slabs
variable {x g w} {p c : ℕ} {inb : ∀ a, (![p, 0, 0] : Fin 3 → ℕ) a + S1x512x128.size a ≤ S24x512x128.size a}
  {u : FVec Ideal S1x512x128 .bf16} {X : Vec Ideal S512x1024 .bf16} {W : Vec Ideal S1024x256 .bf16}
  {inc : ∀ a, (![0, c] : Fin 2 → ℕ) a + S1024x256.size a ≤ S1024x7168.size a}

theorem slab_index (z : S1x512x128.Idx) (hp : p < 24) :
    (Rect.unit (s := S24x512x128) ![p, 0, 0] S1x512x128.size inb).emb z = ix3 ⟨p, hp⟩ (z 1) (z 2) := by
  refine funext fun a => Fin.ext ?_
  match a with
  | ⟨0, _⟩ => show p + 1 * (z 0).val = p; have : (z 0).val < 1 := (z 0).isLt; omega
  | ⟨1, _⟩ => show 0 + 1 * (z 1).val = (z 1).val; omega
  | ⟨2, _⟩ => show 0 + 1 * (z 2).val = (z 2).val; omega

theorem loV (hu : u = lo (prod X W)) (hX : X = norm x g) (hW : W = View.ld w (Rect.unit (s := S1024x7168) ![0, c] S1024x256.size inc))
    (hc : 128 * p = c := by decide) (h8 : 8 ≤ p := by decide) (hp : p < 24 := by decide) (z : S1x512x128.Idx) :
    u z = qkvBlock x g w ((Rect.unit (s := S24x512x128) ![p, 0, 0] S1x512x128.size inb).emb z) := by
  subst hu hX hW
  rw [slab_index z hp]
  refine (congrArg (lo _) (eq_ix3 z)).trans ((lo_apply _ _ _ _).trans ((prod_apply _ _ _ _).trans ?_))
  refine (tile_apply x g w c inc (z 1) _ ⟨128 * p + (z 2).val, by have : (z 2).val < 128 := (z 2).isLt; omega⟩ ?_).trans ?_
  · show 128 * p + (z 2).val = c + (z 2).val; omega
  · show _ = ite _ _ _; exact (if_neg (show ¬ p < 8 by omega)).symm

theorem hiV (hu : u = hi (prod X W)) (hX : X = norm x g) (hW : W = View.ld w (Rect.unit (s := S1024x7168) ![0, c] S1024x256.size inc))
    (hc : 128 * p = c + 128 := by decide) (h8 : 8 ≤ p := by decide) (hp : p < 24 := by decide) (z : S1x512x128.Idx) :
    u z = qkvBlock x g w ((Rect.unit (s := S24x512x128) ![p, 0, 0] S1x512x128.size inb).emb z) := by
  subst hu hX hW
  rw [slab_index z hp]
  refine (congrArg (hi _) (eq_ix3 z)).trans ((hi_apply _ _ _ _).trans ((prod_apply _ _ _ _).trans ?_))
  refine (tile_apply x g w c inc (z 1) _ ⟨128 * p + (z 2).val, by have : (z 2).val < 128 := (z 2).isLt; omega⟩ ?_).trans ?_
  · show 128 * p + (z 2).val = c + (128 + (z 2).val); omega
  · show _ = ite _ _ _; exact (if_neg (show ¬ p < 8 by omega)).symm

theorem loQ (hu : u = lo (prodQ X W)) (hX : X = norm x g) (hW : W = View.ld w (Rect.unit (s := S1024x7168) ![0, c] S1024x256.size inc))
    (hc : 128 * p = c := by decide) (h8 : p < 8 := by decide) (z : S1x512x128.Idx) :
    u z = qkvBlock x g w ((Rect.unit (s := S24x512x128) ![p, 0, 0] S1x512x128.size inb).emb z) := by
  subst hu hX hW
  rw [slab_index z (by omega)]
  refine (congrArg (lo _) (eq_ix3 z)).trans ((lo_apply _ _ _ _).trans ((prodQ_apply _ _ _ _).trans ?_))
  refine (congrArg (· * scale) (tile_apply x g w c inc (z 1) _ ⟨128 * p + (z 2).val, by have : (z 2).val < 128 := (z 2).isLt; omega⟩ ?_)).trans ?_
  · show 128 * p + (z 2).val = c + (z 2).val; omega
  · show _ = ite _ _ _; exact (if_pos (show p < 8 from h8)).symm

theorem hiQ (hu : u = hi (prodQ X W)) (hX : X = norm x g) (hW : W = View.ld w (Rect.unit (s := S1024x7168) ![0, c] S1024x256.size inc))
    (hc : 128 * p = c + 128 := by decide) (h8 : p < 8 := by decide) (z : S1x512x128.Idx) :
    u z = qkvBlock x g w ((Rect.unit (s := S24x512x128) ![p, 0, 0] S1x512x128.size inb).emb z) := by
  subst hu hX hW
  rw [slab_index z (by omega)]
  refine (congrArg (hi _) (eq_ix3 z)).trans ((hi_apply _ _ _ _).trans ((prodQ_apply _ _ _ _).trans ?_))
  refine (congrArg (· * scale) (tile_apply x g w c inc (z 1) _ ⟨128 * p + (z 2).val, by have : (z 2).val < 128 := (z 2).isLt; omega⟩ ?_)).trans ?_
  · show 128 * p + (z 2).val = c + (128 + (z 2).val); omega
  · show _ = ite _ _ _; exact (if_pos (show p < 8 from h8)).symm

end Slabs

theorem gateTile {x g w} {o c : ℕ} {inb : ∀ a, (![0, o] : Fin 2 → ℕ) a + S512x256.size a ≤ S512x2048.size a}
    {u : FVec Ideal S512x256 .bf16} {X : Vec Ideal S512x1024 .bf16} {W : Vec Ideal S1024x256 .bf16}
    {inc : ∀ a, (![0, c] : Fin 2 → ℕ) a + S1024x256.size a ≤ S1024x7168.size a}
    (hu : u = truncf .bf16 (prod X W) bitsLt_bf16_f32) (hX : X = norm x g) (hW : W = View.ld w (Rect.unit (s := S1024x7168) ![0, c] S1024x256.size inc))
    (hc : c = 5120 + o := by decide) (ho : o + 256 ≤ 2048 := by decide) (z : S512x256.Idx) :
    u z = gateBlock x g w ((Rect.unit (s := S512x2048) ![0, o] S512x256.size inb).emb z) := by
  subst hu hX hW
  have hz : (z 1).val < 256 := (z 1).isLt
  have e : (Rect.unit (s := S512x2048) ![0, o] S512x256.size inb).emb z = ix2 (z 0) ⟨o + (z 1).val, by omega⟩ := by
    refine funext fun a => Fin.ext ?_
    match a with
    | ⟨0, _⟩ => show 0 + 1 * (z 0).val = (z 0).val; omega
    | ⟨1, _⟩ => show o + 1 * (z 1).val = o + (z 1).val; omega
  rw [e]
  refine (congrArg (prod (norm x g) _) (eq_ix2 z)).trans ((prod_apply _ _ _ _).trans ?_)
  refine tile_apply x g w c inc (z 0) _ ⟨5120 + (o + (z 1).val), by omega⟩ ?_
  show 5120 + (o + (z 1).val) = c + (z 1).val; omega

/-- The weights as the body keeps them. -/
def rounded (f : Vec Ideal S1024x7168 .f32) : Vec Ideal S1024x7168 .bf16 := f

/-- The 64 rows of the weights that one copy brings. -/
theorem chunk (f : Vec Ideal S1024x7168 .f32) {o : ℕ} {inb : ∀ a, (![o, 0] : Fin 2 → ℕ) a + S64x7168.size a ≤ S1024x7168.size a}
    {u : FVec Ideal S64x7168 .bf16} {d : Vec Ideal S64x7168 .f32}
    (hu : u = shapeCast S64x7168 (truncf .bf16 (d : FVec Ideal S64x7168 .f32) bitsLt_bf16_f32) shapeCasts_S64x7168_S64x7168)
    (hd : d = View.ld f (Rect.unit (s := S1024x7168) ![o, 0] S64x7168.size inb)) (z : S64x7168.Idx) :
    u z = rounded f ((Rect.unit (s := S1024x7168) ![o, 0] S64x7168.size inb).emb z) := by
  subst hu hd
  rw [shapeCast_self]
  rfl

/-! ## What the body's loads read -/

section Loads
variable {κ : Kind} {sp : Space}

/-- A load of a whole argument block reads the block. -/
theorem readAt_whole {s : Shape} {e : EltTy} {M : Memref sig κ sp s e} (h : M.IsWhole) (X : s.Idx → Elt Ideal e)
    {off : Fin s.rank → ℕ} (h0 : off = fun _ => 0) (inb : ∀ a, off a + s.size a ≤ s.size a) :
    M.view.readAt (Elt Ideal) (Rect.unit (s := s) off s.size inb).toLoadRect (h.unread X) = X := by
  refine (View.readAt_eq_ld M.view (h.unread X) (Rect.unit (s := s) off s.size inb)).trans ?_
  rw [h.read_unread, View.ld_unit_zero h0]

/-- A load from an argument block reads the block at the load's indices. -/
theorem readAt_ld {s : Shape} {e : EltTy} {M : Memref sig κ sp s e} (h : M.IsWhole) (X : s.Idx → Elt Ideal e) (r : Rect s) :
    M.view.readAt (Elt Ideal) r.toLoadRect (h.unread X) = View.ld X r := by
  refine (View.readAt_eq_ld M.view (h.unread X) r).trans ?_
  rw [h.read_unread]

/-- A load from a buffer whose stores leave `X` reads `X` at the load's indices. -/
theorem readCov_ld {s : Shape} {e : EltTy} (v : View sig κ sp s e) {L : List (View.Piece (Elt Ideal) s e)} {X : s.Idx → Elt Ideal e}
    (h : View.canon L = X) (r : Rect s) : v.readCov L r.toLoadRect = View.ld X r := by
  rw [View.readCov_eq_canon', h]

/-- A load of the last store's own rectangle reads what it stored. -/
theorem readCov_top {s : Shape} {e : EltTy} (v : View sig κ sp s e) {r : Rect s} {a b : r.shape.Idx → Elt Ideal e}
    {L : List (View.Piece (Elt Ideal) s e)} (h : a = b) : v.readCov (⟨r, a⟩ :: L) r.toLoadRect = b :=
  (View.readCov_cons_toLoadRect v r a L).trans h

/-- The same past one later store elsewhere. -/
theorem readCov_under {s : Shape} {e : EltTy} (v : View sig κ sp s e) {r r' : Rect s} {a b : r.shape.Idx → Elt Ideal e} {a' : r'.shape.Idx → Elt Ideal e}
    {L : List (View.Piece (Elt Ideal) s e)} (hd : LoadRect.disj r' r.toLoadRect = true) (h : a = b) :
    v.readCov (⟨r', a'⟩ :: ⟨r, a⟩ :: L) r.toLoadRect = b :=
  (View.readCov_skip v r' a' _ _ hd).trans (readCov_top v h)

end Loads

end Cert.Inproj

end
-- ==== Proof.InprojFirst.lean ====
module

public import proofs.«01_k».proof.Proof.Gen.Kernel3Ideal.Frame.RunA
public import proofs.«01_k».proof.Proof.InprojRows

@[expose] public section

set_option maxRecDepth 16384
set_option maxHeartbeats 400000

noncomputable section

namespace Cert.Inproj

open Idealize.ShloMosaic Idealize.ShloMosaic.TcCoe Cert.Kernel3Ideal Cert.Kernel3Ideal.Gen

/-! ## The first block: the weights arrive, then the block is computed -/

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S4x1024 .f32) (harg4 : arg4.IsWhole) (arg5 : Memref sig .tc .vmem S1x1024 .f32) (harg5 : arg5.IsWhole) (arg6 : Memref sig .tc .vmem S16x64x64 .f32) (harg6 : arg6.IsWhole) (arg7 : Memref sig .tc .vmem S1x1024 .f32) (harg7 : arg7.IsWhole) (arg8 : Memref sig .tc .vmem S16x64x64 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x5632 .f32) (harg14 : arg14.IsWhole) (arg15 : Memref sig .tc .vmem S176x1024 .f32) (harg15 : arg15.IsWhole) (arg16 : Memref sig .tc .vmem S24x512x128 .bf16) (harg16 : arg16.IsWhole) (arg17 : Memref sig .tc .vmem S512x2048 .bf16) (harg17 : arg17.IsWhole) (arg18 : Memref sig .tc .vmem S512x1024 .bf16) (harg18 : arg18.IsWhole) (arg19 : Memref sig .tc .vmem S32x1024 .bf16) (harg19 : arg19.IsWhole) (arg20 : Memref sig .tc .vmem S32x1024 .bf16) (harg20 : arg20.IsWhole) (arg21 : Memref sig .tc .vmem S32x1024 .bf16) (harg21 : arg21.IsWhole) (arg22 : Memref sig .tc .vmem S32x5632 .bf16) (harg22 : arg22.IsWhole) (arg23 : Memref sig .tc .vmem S176x1024 .bf16) (harg23 : arg23.IsWhole) (arg24 : Memref sig .tc .vmem S1024x7168 .bf16) (harg24 : arg24.IsWhole) (arg25 : Memref sig .tc .vmem S128x7168 .f32) (harg25 : arg25.IsWhole) (arg27 : Memref sig .tc .vmem S4x256x256 .bf16) (harg27 : arg27.IsWhole) (arg28 : Memref sig .tc .vmem S4x256x256 .bf16) (harg28 : arg28.IsWhole) (arg29 : Memref sig .tc .vmem S512x1024 .bf16) (harg29 : arg29.IsWhole) (arg30 : Memref sig .tc .vmem S512x1024 .f32) (harg30 : arg30.IsWhole) (arg31 : Memref sig .tc .vmem S8x520x128 .f32) (harg31 : arg31.IsWhole) (arg32 : Memref sig .tc .vmem S512x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S8x544x128 .f32) (harg35 : arg35.IsWhole) (arg36 : Memref sig .tc .vmem S8x544x128 .f32) (harg36 : arg36.IsWhole) (arg37 : Memref sig .tc .vmem S8x544x128 .f32) (harg37 : arg37.IsWhole) (arg38 : Memref sig .tc .vmem S8x544x128 .f32) (harg38 : arg38.IsWhole) (arg39 : Memref sig .tc .vmem S8x1024 .f32) (harg39 : arg39.IsWhole)
  (hc0 : cond0_0 i) (hc1 : cond0_1 i)
  (x0 : Vec Ideal S512x1024 .f32) (x1 : Vec Ideal S1x1024 .f32) (x2 : Vec Ideal S4x1024 .f32) (x3 : Vec Ideal S1x1024 .f32) (x4 : Vec Ideal S16x64x64 .f32) (x5 : Vec Ideal S1x1024 .f32) (x6 : Vec Ideal S16x64x64 .f32) (x7 : Vec Ideal S1x1024 .f32) (x8 : Vec Ideal S1x1024 .f32) (x9 : Vec Ideal S32x1024 .f32) (x10 : Vec Ideal S32x1024 .f32) (x11 : Vec Ideal S32x1024 .f32) (x12 : Vec Ideal S32x5632 .f32) (x13 : Vec Ideal S176x1024 .f32) (fh0 : HbBuf0 (F := Ideal) c hbM0_0)

/-- The copy of a chunk leaves the weights' rows. -/
theorem copy_ld (f : HbBuf0 (F := Ideal) c hbM0_0) {o : ℕ} {inb : ∀ a, (![o, 0] : Fin 2 → ℕ) a + S64x7168.size a ≤ S1024x7168.size a} {h} :
    ReadAs.same.apply (View.read (Elt Ideal) ((Memref.whole main_arg2).slice (Rect.unit (s := S1024x7168) ![o, 0] S64x7168.size inb) h).view f)
      = View.ld (f : Vec Ideal S1024x7168 .f32) (Rect.unit (s := S1024x7168) ![o, 0] S64x7168.size inb) := by
  refine funext fun z => ?_
  refine (View.read_apply (Val := Elt Ideal) (v := ((Memref.whole main_arg2).slice (Rect.unit (s := S1024x7168) ![o, 0] S64x7168.size inb) h).view) f z).trans ?_
  rfl

theorem weights_pieces : View.PiecesOf (rounded fh0) (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.2.2.2.1 :=
  ⟨chunk fh0 rfl (readCov_top _ (copy_ld c fh0)),
    chunk fh0 rfl (readCov_under _ rfl (copy_ld c fh0)), chunk fh0 rfl (readCov_under _ rfl (copy_ld c fh0)), chunk fh0 rfl (readCov_under _ rfl (copy_ld c fh0)),
      chunk fh0 rfl (readCov_under _ rfl (copy_ld c fh0)), chunk fh0 rfl (readCov_under _ rfl (copy_ld c fh0)), chunk fh0 rfl (readCov_under _ rfl (copy_ld c fh0)),
      chunk fh0 rfl (readCov_under _ rfl (copy_ld c fh0)), chunk fh0 rfl (readCov_under _ rfl (copy_ld c fh0)), chunk fh0 rfl (readCov_under _ rfl (copy_ld c fh0)),
      chunk fh0 rfl (readCov_under _ rfl (copy_ld c fh0)), chunk fh0 rfl (readCov_under _ rfl (copy_ld c fh0)), chunk fh0 rfl (readCov_under _ rfl (copy_ld c fh0)),
      chunk fh0 rfl (readCov_under _ rfl (copy_ld c fh0)), chunk fh0 rfl (readCov_under _ rfl (copy_ld c fh0)), chunk fh0 rfl (readCov_under _ rfl (copy_ld c fh0)), trivial⟩

theorem weights_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.2.2.2.1 = rounded fh0 :=
  funext fun y => View.canon_apply_of_pieces (rounded fh0) _ (View.PiecesOf.mem (weights_pieces c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0)) y
    (View.cover_of_tiledL (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.2.2.2.1 S64x7168.size (by sl_kernel_rfl) y)

theorem qkv_first : View.PiecesOf (qkvBlock x0 x1 (rounded fh0)) (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readCov_ld arg24.view (weights_first c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0) r
  exact ⟨hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _), trivial⟩

theorem gates_first : View.PiecesOf (gateBlock x0 x1 (rounded fh0)) (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readCov_ld arg24.view (weights_first c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0) r
  exact ⟨gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _), trivial⟩

theorem out1_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.1 = (x9 : Vec Ideal S32x1024 .bf16) :=
  (View.canon_unit_zero hz2 _ _).trans (readAt_whole harg11 x9 hz2 _)

theorem out2_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.1 = (x10 : Vec Ideal S32x1024 .bf16) :=
  (View.canon_unit_zero hz2 _ _).trans (readAt_whole harg12 x10 hz2 _)

theorem out3_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.1 = (x11 : Vec Ideal S32x1024 .bf16) :=
  (View.canon_unit_zero hz2 _ _).trans (readAt_whole harg13 x11 hz2 _)

theorem ffn1_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.2.1 = (x12 : Vec Ideal S32x5632 .bf16) :=
  (View.canon_unit_zero hz2 _ _).trans (readAt_whole harg14 x12 hz2 _)

theorem ffn2_first : View.canon (kernelRun0_A (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 fh0).2.2.2.2.2.2.2.1 = (x13 : Vec Ideal S176x1024 .bf16) :=
  (View.canon_unit_zero hz2 _ _).trans (readAt_whole harg15 x13 hz2 _)

end

end Cert.Inproj

end
-- ==== Proof.InprojInside.lean ====
module

public import proofs.«01_k».proof.Proof.Gen.Kernel3Ideal.Frame.RunB
public import proofs.«01_k».proof.Proof.InprojRows

@[expose] public section

set_option maxRecDepth 16384
set_option maxHeartbeats 400000

noncomputable section

namespace Cert.Inproj

open Idealize.ShloMosaic Idealize.ShloMosaic.TcCoe Cert.Kernel3Ideal Cert.Kernel3Ideal.Gen

/-! ## A block inside a sequence -/

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S4x1024 .f32) (harg4 : arg4.IsWhole) (arg5 : Memref sig .tc .vmem S1x1024 .f32) (harg5 : arg5.IsWhole) (arg6 : Memref sig .tc .vmem S16x64x64 .f32) (harg6 : arg6.IsWhole) (arg7 : Memref sig .tc .vmem S1x1024 .f32) (harg7 : arg7.IsWhole) (arg8 : Memref sig .tc .vmem S16x64x64 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x5632 .f32) (harg14 : arg14.IsWhole) (arg15 : Memref sig .tc .vmem S176x1024 .f32) (harg15 : arg15.IsWhole) (arg16 : Memref sig .tc .vmem S24x512x128 .bf16) (harg16 : arg16.IsWhole) (arg17 : Memref sig .tc .vmem S512x2048 .bf16) (harg17 : arg17.IsWhole) (arg18 : Memref sig .tc .vmem S512x1024 .bf16) (harg18 : arg18.IsWhole) (arg19 : Memref sig .tc .vmem S32x1024 .bf16) (harg19 : arg19.IsWhole) (arg20 : Memref sig .tc .vmem S32x1024 .bf16) (harg20 : arg20.IsWhole) (arg21 : Memref sig .tc .vmem S32x1024 .bf16) (harg21 : arg21.IsWhole) (arg22 : Memref sig .tc .vmem S32x5632 .bf16) (harg22 : arg22.IsWhole) (arg23 : Memref sig .tc .vmem S176x1024 .bf16) (harg23 : arg23.IsWhole) (arg24 : Memref sig .tc .vmem S1024x7168 .bf16) (harg24 : arg24.IsWhole) (arg25 : Memref sig .tc .vmem S128x7168 .f32) (harg25 : arg25.IsWhole) (arg27 : Memref sig .tc .vmem S4x256x256 .bf16) (harg27 : arg27.IsWhole) (arg28 : Memref sig .tc .vmem S4x256x256 .bf16) (harg28 : arg28.IsWhole) (arg29 : Memref sig .tc .vmem S512x1024 .bf16) (harg29 : arg29.IsWhole) (arg30 : Memref sig .tc .vmem S512x1024 .f32) (harg30 : arg30.IsWhole) (arg31 : Memref sig .tc .vmem S8x520x128 .f32) (harg31 : arg31.IsWhole) (arg32 : Memref sig .tc .vmem S512x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S8x544x128 .f32) (harg35 : arg35.IsWhole) (arg36 : Memref sig .tc .vmem S8x544x128 .f32) (harg36 : arg36.IsWhole) (arg37 : Memref sig .tc .vmem S8x544x128 .f32) (harg37 : arg37.IsWhole) (arg38 : Memref sig .tc .vmem S8x544x128 .f32) (harg38 : arg38.IsWhole) (arg39 : Memref sig .tc .vmem S8x1024 .f32) (harg39 : arg39.IsWhole)
  (hc0 : ¬cond0_0 i) (hc1 : ¬cond0_1 i)
  (x0 : Vec Ideal S512x1024 .f32) (x1 : Vec Ideal S1x1024 .f32) (x2 : Vec Ideal S4x1024 .f32) (x3 : Vec Ideal S1x1024 .f32) (x4 : Vec Ideal S16x64x64 .f32) (x5 : Vec Ideal S1x1024 .f32) (x6 : Vec Ideal S16x64x64 .f32) (x7 : Vec Ideal S1x1024 .f32) (x8 : Vec Ideal S1x1024 .f32) (x9 : Vec Ideal S32x1024 .f32) (x10 : Vec Ideal S32x1024 .f32) (x11 : Vec Ideal S32x1024 .f32) (x12 : Vec Ideal S32x5632 .f32) (x13 : Vec Ideal S176x1024 .f32) (xs0 : Vec Ideal S1024x7168 .bf16) (xs2 : Vec Ideal S4x256x256 .bf16) (xs3 : Vec Ideal S4x256x256 .bf16) (xs6 : Vec Ideal S8x520x128 .f32) (xs14 : Vec Ideal S8x1024 .f32) (fh0 : HbBuf0 (F := Ideal) c hbM0_0)

theorem qkv_inside : View.PiecesOf (qkvBlock x0 x1 xs0) (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readAt_ld harg24 xs0 r
  exact ⟨hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _), trivial⟩

theorem gates_inside : View.PiecesOf (gateBlock x0 x1 xs0) (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readAt_ld harg24 xs0 r
  exact ⟨gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _), trivial⟩

theorem out1_inside : View.canon (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.2.2.1 = (x9 : Vec Ideal S32x1024 .bf16) :=
  (View.canon_unit_zero hz2 _ _).trans (readAt_whole harg11 x9 hz2 _)

theorem out2_inside : View.canon (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.2.2.2.1 = (x10 : Vec Ideal S32x1024 .bf16) :=
  (View.canon_unit_zero hz2 _ _).trans (readAt_whole harg12 x10 hz2 _)

theorem out3_inside : View.canon (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.2.2.2.2.1 = (x11 : Vec Ideal S32x1024 .bf16) :=
  (View.canon_unit_zero hz2 _ _).trans (readAt_whole harg13 x11 hz2 _)

theorem ffn1_inside : View.canon (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.2.2.2.2.2.1 = (x12 : Vec Ideal S32x5632 .bf16) :=
  (View.canon_unit_zero hz2 _ _).trans (readAt_whole harg14 x12 hz2 _)

theorem ffn2_inside : View.canon (kernelRun0_B (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 xs6 xs14 fh0).2.2.2.2.2.2.2.1 = (x13 : Vec Ideal S176x1024 .bf16) :=
  (View.canon_unit_zero hz2 _ _).trans (readAt_whole harg15 x13 hz2 _)

end

end Cert.Inproj

end
-- ==== Proof.InprojStart.lean ====
module

public import proofs.«01_k».proof.Proof.Gen.Kernel3Ideal.Frame.RunC
public import proofs.«01_k».proof.Proof.InprojRows

@[expose] public section

set_option maxRecDepth 16384
set_option maxHeartbeats 400000

noncomputable section

namespace Cert.Inproj

open Idealize.ShloMosaic Idealize.ShloMosaic.TcCoe Cert.Kernel3Ideal Cert.Kernel3Ideal.Gen

/-! ## The first block of a later sequence -/

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S4x1024 .f32) (harg4 : arg4.IsWhole) (arg5 : Memref sig .tc .vmem S1x1024 .f32) (harg5 : arg5.IsWhole) (arg6 : Memref sig .tc .vmem S16x64x64 .f32) (harg6 : arg6.IsWhole) (arg7 : Memref sig .tc .vmem S1x1024 .f32) (harg7 : arg7.IsWhole) (arg8 : Memref sig .tc .vmem S16x64x64 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x5632 .f32) (harg14 : arg14.IsWhole) (arg15 : Memref sig .tc .vmem S176x1024 .f32) (harg15 : arg15.IsWhole) (arg16 : Memref sig .tc .vmem S24x512x128 .bf16) (harg16 : arg16.IsWhole) (arg17 : Memref sig .tc .vmem S512x2048 .bf16) (harg17 : arg17.IsWhole) (arg18 : Memref sig .tc .vmem S512x1024 .bf16) (harg18 : arg18.IsWhole) (arg19 : Memref sig .tc .vmem S32x1024 .bf16) (harg19 : arg19.IsWhole) (arg20 : Memref sig .tc .vmem S32x1024 .bf16) (harg20 : arg20.IsWhole) (arg21 : Memref sig .tc .vmem S32x1024 .bf16) (harg21 : arg21.IsWhole) (arg22 : Memref sig .tc .vmem S32x5632 .bf16) (harg22 : arg22.IsWhole) (arg23 : Memref sig .tc .vmem S176x1024 .bf16) (harg23 : arg23.IsWhole) (arg24 : Memref sig .tc .vmem S1024x7168 .bf16) (harg24 : arg24.IsWhole) (arg25 : Memref sig .tc .vmem S128x7168 .f32) (harg25 : arg25.IsWhole) (arg27 : Memref sig .tc .vmem S4x256x256 .bf16) (harg27 : arg27.IsWhole) (arg28 : Memref sig .tc .vmem S4x256x256 .bf16) (harg28 : arg28.IsWhole) (arg29 : Memref sig .tc .vmem S512x1024 .bf16) (harg29 : arg29.IsWhole) (arg30 : Memref sig .tc .vmem S512x1024 .f32) (harg30 : arg30.IsWhole) (arg31 : Memref sig .tc .vmem S8x520x128 .f32) (harg31 : arg31.IsWhole) (arg32 : Memref sig .tc .vmem S512x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S8x544x128 .f32) (harg35 : arg35.IsWhole) (arg36 : Memref sig .tc .vmem S8x544x128 .f32) (harg36 : arg36.IsWhole) (arg37 : Memref sig .tc .vmem S8x544x128 .f32) (harg37 : arg37.IsWhole) (arg38 : Memref sig .tc .vmem S8x544x128 .f32) (harg38 : arg38.IsWhole) (arg39 : Memref sig .tc .vmem S8x1024 .f32) (harg39 : arg39.IsWhole)
  (hc0 : ¬cond0_0 i) (hc1 : cond0_1 i)
  (x0 : Vec Ideal S512x1024 .f32) (x1 : Vec Ideal S1x1024 .f32) (x2 : Vec Ideal S4x1024 .f32) (x3 : Vec Ideal S1x1024 .f32) (x4 : Vec Ideal S16x64x64 .f32) (x5 : Vec Ideal S1x1024 .f32) (x6 : Vec Ideal S16x64x64 .f32) (x7 : Vec Ideal S1x1024 .f32) (x8 : Vec Ideal S1x1024 .f32) (x9 : Vec Ideal S32x1024 .f32) (x10 : Vec Ideal S32x1024 .f32) (x11 : Vec Ideal S32x1024 .f32) (x12 : Vec Ideal S32x5632 .f32) (x13 : Vec Ideal S176x1024 .f32) (xs0 : Vec Ideal S1024x7168 .bf16) (xs2 : Vec Ideal S4x256x256 .bf16) (xs3 : Vec Ideal S4x256x256 .bf16) (fh0 : HbBuf0 (F := Ideal) c hbM0_0)

theorem qkv_start : View.PiecesOf (qkvBlock x0 x1 xs0) (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readAt_ld harg24 xs0 r
  exact ⟨hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiV (inb := by decide) rfl hX (hW _), loV (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _),
    hiQ (inb := by decide) rfl hX (hW _), loQ (inb := by decide) rfl hX (hW _), trivial⟩

theorem gates_start : View.PiecesOf (gateBlock x0 x1 xs0) (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.1 := by
  have hX := readCov_top arg29.view (r := Rect.unit (s := S512x1024) ![0, 0] S512x1024.size (by decide)) (L := [])
    (congrArg₂ k0_pay61 (readAt_whole harg1 x0 hz2 (by decide)) (readAt_whole harg2 x1 hz2 (by decide)))
  have hW := fun r => readAt_ld harg24 xs0 r
  exact ⟨gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _),
    gateTile (inb := by decide) rfl hX (hW _), gateTile (inb := by decide) rfl hX (hW _), trivial⟩

theorem out1_start : View.canon (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.2.2.1 = (x9 : Vec Ideal S32x1024 .bf16) :=
  (View.canon_unit_zero hz2 _ _).trans (readAt_whole harg11 x9 hz2 _)

theorem out2_start : View.canon (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.2.2.2.1 = (x10 : Vec Ideal S32x1024 .bf16) :=
  (View.canon_unit_zero hz2 _ _).trans (readAt_whole harg12 x10 hz2 _)

theorem out3_start : View.canon (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.2.2.2.2.1 = (x11 : Vec Ideal S32x1024 .bf16) :=
  (View.canon_unit_zero hz2 _ _).trans (readAt_whole harg13 x11 hz2 _)

theorem ffn1_start : View.canon (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.2.2.2.2.2.1 = (x12 : Vec Ideal S32x5632 .bf16) :=
  (View.canon_unit_zero hz2 _ _).trans (readAt_whole harg14 x12 hz2 _)

theorem ffn2_start : View.canon (kernelRun0_C (F := Ideal) c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 arg30 harg30 arg31 harg31 arg32 harg32 arg33 harg33 arg34 harg34 arg35 harg35 arg36 harg36 arg37 harg37 arg38 harg38 arg39 harg39 hc0 hc1 x0 x1 x2 x3 x4 x5 x6 x7 x8 x9 x10 x11 x12 x13 xs0 xs2 xs3 fh0).2.2.2.2.2.2.2.1 = (x13 : Vec Ideal S176x1024 .bf16) :=
  (View.canon_unit_zero hz2 _ _).trans (readAt_whole harg15 x13 hz2 _)

end

end Cert.Inproj

end
-- ==== Proof.InprojPoints.lean ====
module

public import proofs.«01_k».proof.Proof.InprojFirst
public import proofs.«01_k».proof.Proof.InprojInside
public import proofs.«01_k».proof.Proof.InprojStart
public import proofs.«01_k».proof.Proof.Gen.Kernel3Ideal.Frame

@[expose] public section

set_option maxRecDepth 16384
set_option maxHeartbeats 400000

noncomputable section

namespace Cert.Inproj

open Idealize.ShloMosaic Idealize.ShloMosaic.TcCoe Cert.Kernel3Ideal Cert.Kernel3Ideal.Gen

variable (m : (ℓ : Loc nD τ sig) → Buf (Elt Ideal) ℓ)

theorem t_lt (t : Fin cfg0.N) : t.val < 32 := t.isLt.trans_eq (show cfg0.N = 32 from N_0)

/-! ## What every grid point leaves -/

/-- The weights the body keeps between grid points. -/
def weights (c : Dev nD) : Vec Ideal S1024x7168 .bf16 := rounded (V m c main_arg2)

/-- Every grid point leaves the weights in the kept buffer: the first brings them, the others do not touch it. -/
theorem weights_at (c : Dev nD) : ∀ (n : ℕ) (hn : n < cfg0.N), (outsAt0 m c n hn).2.2.2.2.2.2.2.2.1 = weights m c
  | 0, hn => (congrArg (fun o => o.2.2.2.2.2.2.2.2.1) (outsAt0_A m c ⟨0, hn⟩ (Nat.zero_mod _) (Nat.zero_mod _))).trans
          ((View.read_writes_junk_eq_canon (Val := Elt Ideal) VS0_0 _).trans (by apply weights_first))
  | n + 1, hn => by
    have hN : n + 1 < 32 := t_lt ⟨n + 1, hn⟩
    have h0 : ¬ (n + 1) % 32 = 0 := by omega
    have ih := weights_at c n (Nat.lt_of_succ_lt hn)
    by_cases h1 : (n + 1) % 8 = 0
    · exact (congrArg (fun o => o.2.2.2.2.2.2.2.2.1) (outsAt0_C m c ⟨n + 1, hn⟩ h0 h1)).trans ih
    · exact (congrArg (fun o => o.2.2.2.2.2.2.2.2.1) (outsAt0_B m c ⟨n + 1, hn⟩ h0 h1)).trans ih

theorem qkv_at (c : Dev nD) (t : Fin cfg0.N) :
    (outsAt0 m c t.val t.isLt).1 = qkvBlock (iblk m c 0 t) (iblk m c 1 t) (weights m c) := by
  have hw := weights_at m c (t.val - 1) (Nat.lt_of_le_of_lt (Nat.sub_le _ _) t.isLt)
  by_cases h0 : t.val % 32 = 0
  · have h1 : t.val % 8 = 0 := by omega
    exact ((congrArg (fun o => o.1) (outsAt0_A m c t h0 h1)).trans
          ((View.read_writes_junk_eq_canon (Val := Elt Ideal) VO0_14 _).trans (funext fun y =>
            View.canon_apply_of_pieces _ _ (View.PiecesOf.mem (by apply qkv_first)) y (by apply cover0_A_14))))
  · by_cases h1 : t.val % 8 = 0
    · exact ((congrArg (fun o => o.1) (outsAt0_C m c t h0 h1)).trans
          ((View.read_writes_junk_eq_canon (Val := Elt Ideal) VO0_14 _).trans (funext fun y =>
            View.canon_apply_of_pieces _ _ (View.PiecesOf.mem (by apply qkv_start)) y (by apply cover0_C_14)))).trans
        (congrArg (qkvBlock (iblk m c 0 t) (iblk m c 1 t)) hw)
    · exact ((congrArg (fun o => o.1) (outsAt0_B m c t h0 h1)).trans
          ((View.read_writes_junk_eq_canon (Val := Elt Ideal) VO0_14 _).trans (funext fun y =>
            View.canon_apply_of_pieces _ _ (View.PiecesOf.mem (by apply qkv_inside)) y (by apply cover0_B_14)))).trans
        (congrArg (qkvBlock (iblk m c 0 t) (iblk m c 1 t)) hw)

theorem gates_at (c : Dev nD) (t : Fin cfg0.N) :
    (outsAt0 m c t.val t.isLt).2.1 = gateBlock (iblk m c 0 t) (iblk m c 1 t) (weights m c) := by
  have hw := weights_at m c (t.val - 1) (Nat.lt_of_le_of_lt (Nat.sub_le _ _) t.isLt)
  by_cases h0 : t.val % 32 = 0
  · have h1 : t.val % 8 = 0 := by omega
    exact ((congrArg (fun o => o.2.1) (outsAt0_A m c t h0 h1)).trans
          ((View.read_writes_junk_eq_canon (Val := Elt Ideal) VO0_15 _).trans (funext fun y =>
            View.canon_apply_of_pieces _ _ (View.PiecesOf.mem (by apply gates_first)) y (by apply cover0_A_15))))
  · by_cases h1 : t.val % 8 = 0
    · exact ((congrArg (fun o => o.2.1) (outsAt0_C m c t h0 h1)).trans
          ((View.read_writes_junk_eq_canon (Val := Elt Ideal) VO0_15 _).trans (funext fun y =>
            View.canon_apply_of_pieces _ _ (View.PiecesOf.mem (by apply gates_start)) y (by apply cover0_C_15)))).trans
        (congrArg (gateBlock (iblk m c 0 t) (iblk m c 1 t)) hw)
    · exact ((congrArg (fun o => o.2.1) (outsAt0_B m c t h0 h1)).trans
          ((View.read_writes_junk_eq_canon (Val := Elt Ideal) VO0_15 _).trans (funext fun y =>
            View.canon_apply_of_pieces _ _ (View.PiecesOf.mem (by apply gates_inside)) y (by apply cover0_B_15)))).trans
        (congrArg (gateBlock (iblk m c 0 t) (iblk m c 1 t)) hw)

theorem out1_at (c : Dev nD) (t : Fin cfg0.N) :
    (outsAt0 m c t.val t.isLt).2.2.2.1 = (iblk m c 9 t : Vec Ideal S32x1024 .bf16) := by
  by_cases h0 : t.val % 32 = 0
  · have h1 : t.val % 8 = 0 := by omega
    exact (congrArg (fun o => o.2.2.2.1) (outsAt0_A m c t h0 h1)).trans
          ((View.read_writes_junk_eq_canon (Val := Elt Ideal) VO0_17 _).trans (by apply out1_first))
  · by_cases h1 : t.val % 8 = 0
    · exact (congrArg (fun o => o.2.2.2.1) (outsAt0_C m c t h0 h1)).trans
          ((View.read_writes_junk_eq_canon (Val := Elt Ideal) VO0_17 _).trans (by apply out1_start))
    · exact (congrArg (fun o => o.2.2.2.1) (outsAt0_B m c t h0 h1)).trans
          ((View.read_writes_junk_eq_canon (Val := Elt Ideal) VO0_17 _).trans (by apply out1_inside))

theorem out2_at (c : Dev nD) (t : Fin cfg0.N) :
    (outsAt0 m c t.val t.isLt).2.2.2.2.1 = (iblk m c 10 t : Vec Ideal S32x1024 .bf16) := by
  by_cases h0 : t.val % 32 = 0
  · have h1 : t.val % 8 = 0 := by omega
    exact (congrArg (fun o => o.2.2.2.2.1) (outsAt0_A m c t h0 h1)).trans
          ((View.read_writes_junk_eq_canon (Val := Elt Ideal) VO0_18 _).trans (by apply out2_first))
  · by_cases h1 : t.val % 8 = 0
    · exact (congrArg (fun o => o.2.2.2.2.1) (outsAt0_C m c t h0 h1)).trans
          ((View.read_writes_junk_eq_canon (Val := Elt Ideal) VO0_18 _).trans (by apply out2_start))
    · exact (congrArg (fun o => o.2.2.2.2.1) (outsAt0_B m c t h0 h1)).trans
          ((View.read_writes_junk_eq_canon (Val := Elt Ideal) VO0_18 _).trans (by apply out2_inside))

theorem out3_at (c : Dev nD) (t : Fin cfg0.N) :
    (outsAt0 m c t.val t.isLt).2.2.2.2.2.1 = (iblk m c 11 t : Vec Ideal S32x1024 .bf16) := by
  by_cases h0 : t.val % 32 = 0
  · have h1 : t.val % 8 = 0 := by omega
    exact (congrArg (fun o => o.2.2.2.2.2.1) (outsAt0_A m c t h0 h1)).trans
          ((View.read_writes_junk_eq_canon (Val := Elt Ideal) VO0_19 _).trans (by apply out3_first))
  · by_cases h1 : t.val % 8 = 0
    · exact (congrArg (fun o => o.2.2.2.2.2.1) (outsAt0_C m c t h0 h1)).trans
          ((View.read_writes_junk_eq_canon (Val := Elt Ideal) VO0_19 _).trans (by apply out3_start))
    · exact (congrArg (fun o => o.2.2.2.2.2.1) (outsAt0_B m c t h0 h1)).trans
          ((View.read_writes_junk_eq_canon (Val := Elt Ideal) VO0_19 _).trans (by apply out3_inside))

theorem ffn1_at (c : Dev nD) (t : Fin cfg0.N) :
    (outsAt0 m c t.val t.isLt).2.2.2.2.2.2.1 = (iblk m c 12 t : Vec Ideal S32x5632 .bf16) := by
  by_cases h0 : t.val % 32 = 0
  · have h1 : t.val % 8 = 0 := by omega
    exact (congrArg (fun o => o.2.2.2.2.2.2.1) (outsAt0_A m c t h0 h1)).trans
          ((View.read_writes_junk_eq_canon (Val := Elt Ideal) VO0_20 _).trans (by apply ffn1_first))
  · by_cases h1 : t.val % 8 = 0
    · exact (congrArg (fun o => o.2.2.2.2.2.2.1) (outsAt0_C m c t h0 h1)).trans
          ((View.read_writes_junk_eq_canon (Val := Elt Ideal) VO0_20 _).trans (by apply ffn1_start))
    · exact (congrArg (fun o => o.2.2.2.2.2.2.1) (outsAt0_B m c t h0 h1)).trans
          ((View.read_writes_junk_eq_canon (Val := Elt Ideal) VO0_20 _).trans (by apply ffn1_inside))

theorem ffn2_at (c : Dev nD) (t : Fin cfg0.N) :
    (outsAt0 m c t.val t.isLt).2.2.2.2.2.2.2.1 = (iblk m c 13 t : Vec Ideal S176x1024 .bf16) := by
  by_cases h0 : t.val % 32 = 0
  · have h1 : t.val % 8 = 0 := by omega
    exact (congrArg (fun o => o.2.2.2.2.2.2.2.1) (outsAt0_A m c t h0 h1)).trans
          ((View.read_writes_junk_eq_canon (Val := Elt Ideal) VO0_21 _).trans (by apply ffn2_first))
  · by_cases h1 : t.val % 8 = 0
    · exact (congrArg (fun o => o.2.2.2.2.2.2.2.1) (outsAt0_C m c t h0 h1)).trans
          ((View.read_writes_junk_eq_canon (Val := Elt Ideal) VO0_21 _).trans (by apply ffn2_start))
    · exact (congrArg (fun o => o.2.2.2.2.2.2.2.1) (outsAt0_B m c t h0 h1)).trans
          ((View.read_writes_junk_eq_canon (Val := Elt Ideal) VO0_21 _).trans (by apply ffn2_inside))

end Cert.Inproj

end
-- ==== Proof.InprojRun.lean ====
module

public import proofs.«01_k».proof.Proof.Gen.Kernel3Ideal.Frame
public import Idealize.ShloMosaic.Lib.Pipeline.Value

@[expose] public section

noncomputable section

namespace Cert.Inproj

open Cert.Kernel3Ideal Cert.Kernel3Ideal.Gen Idealize.ShloMosaic Idealize.ShloMosaic.TcCoe Idealize.SL.Sem
open Idealize.ShloMosaic.Pipeline (Dat)

/-! The run of the call: what each grid point writes back to the results, and every result array after the run named.
    The statements and proofs are the printed ones, for the results this certificate states. -/

variable {F : FTy → Type} [FloatOps F]
variable (m : (ℓ : Loc nD τ sig) → Buf (Elt F) ℓ) (ρ : Dev nD → PrngReg)

/-- What point `t` writes back to output window 14's array. -/
theorem flushed14 (c : Dev nD) (t : Fin cfg0.N) :
    (dats m 0 c).flushed 14 t = (cfg0.win 14).cut (grid0.coords t) ((outsAt0 m c t.val t.isLt).1) := by
  show (cfg0.win 14).cut (grid0.coords t) ((dats m 0 c).after 14 t) = _
  rw [after0_14]

/-- What point `t` writes back to output window 15's array. -/
theorem flushed15 (c : Dev nD) (t : Fin cfg0.N) :
    (dats m 0 c).flushed 15 t = (cfg0.win 15).cut (grid0.coords t) ((outsAt0 m c t.val t.isLt).2.1) := by
  show (cfg0.win 15).cut (grid0.coords t) ((dats m 0 c).after 15 t) = _
  rw [after0_15]

/-- What point `t` writes back to output window 17's array. -/
theorem flushed17 (c : Dev nD) (t : Fin cfg0.N) :
    (dats m 0 c).flushed 17 t = (cfg0.win 17).cut (grid0.coords t) ((outsAt0 m c t.val t.isLt).2.2.2.1) := by
  show (cfg0.win 17).cut (grid0.coords t) ((dats m 0 c).after 17 t) = _
  rw [after0_17]

/-- What point `t` writes back to output window 18's array. -/
theorem flushed18 (c : Dev nD) (t : Fin cfg0.N) :
    (dats m 0 c).flushed 18 t = (cfg0.win 18).cut (grid0.coords t) ((outsAt0 m c t.val t.isLt).2.2.2.2.1) := by
  show (cfg0.win 18).cut (grid0.coords t) ((dats m 0 c).after 18 t) = _
  rw [after0_18]

/-- What point `t` writes back to output window 19's array. -/
theorem flushed19 (c : Dev nD) (t : Fin cfg0.N) :
    (dats m 0 c).flushed 19 t = (cfg0.win 19).cut (grid0.coords t) ((outsAt0 m c t.val t.isLt).2.2.2.2.2.1) := by
  show (cfg0.win 19).cut (grid0.coords t) ((dats m 0 c).after 19 t) = _
  rw [after0_19]

/-- What point `t` writes back to output window 20's array. -/
theorem flushed20 (c : Dev nD) (t : Fin cfg0.N) :
    (dats m 0 c).flushed 20 t = (cfg0.win 20).cut (grid0.coords t) ((outsAt0 m c t.val t.isLt).2.2.2.2.2.2.1) := by
  show (cfg0.win 20).cut (grid0.coords t) ((dats m 0 c).after 20 t) = _
  rw [after0_20]

/-- What point `t` writes back to output window 21's array. -/
theorem flushed21 (c : Dev nD) (t : Fin cfg0.N) :
    (dats m 0 c).flushed 21 t = (cfg0.win 21).cut (grid0.coords t) ((outsAt0 m c t.val t.isLt).2.2.2.2.2.2.2.1) := by
  show (cfg0.win 21).cut (grid0.coords t) ((dats m 0 c).after 21 t) = _
  rw [after0_21]

/-- Argument 0 is as launched after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is as launched after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 is as launched after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as launched after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- Argument 4 is as launched after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- Argument 5 is as launched after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- Argument 6 is as launched after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- Argument 7 is as launched after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- Argument 8 is as launched after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- Argument 9 is as launched after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 8).trans (((dats m 0 c).arrAt_in 8 rfl _).trans ((A_eq m c 8).trans (V_main_arg9 m c)))

/-- Argument 10 is as launched after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

/-- Argument 11 is as launched after the run. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- Argument 12 is as launched after the run. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- Argument 13 is as launched after the run. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- Argument 14 is as launched after the run. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 13).trans (((dats m 0 c).arrAt_in 13 rfl _).trans ((A_eq m c 13).trans (V_main_arg14 m c)))

/-- The run with each stated result array named, the arguments unchanged. -/
theorem run_results : θ_run defs (onTc (τ := τ) (main (F := F))) ⟨m, fun _ => 0, ρ⟩ fun r => ∀ c : Dev nD,
      r.2.mem ((c : Thread nD τ).loc main_v0_0) = (dats m 0 c).arrAt 14 cfg0.N
      ∧ r.2.mem ((c : Thread nD τ).loc main_v0_1) = (dats m 0 c).arrAt 15 cfg0.N
      ∧ r.2.mem ((c : Thread nD τ).loc main_v0_3) = (dats m 0 c).arrAt 17 cfg0.N
      ∧ r.2.mem ((c : Thread nD τ).loc main_v0_4) = (dats m 0 c).arrAt 18 cfg0.N
      ∧ r.2.mem ((c : Thread nD τ).loc main_v0_5) = (dats m 0 c).arrAt 19 cfg0.N
      ∧ r.2.mem ((c : Thread nD τ).loc main_v0_6) = (dats m 0 c).arrAt 20 cfg0.N
      ∧ r.2.mem ((c : Thread nD τ).loc main_v0_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1 14, (h c).1 15, (h c).1 17, (h c).1 18, (h c).1 19, (h c).1 20, (h c).1 21, kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c⟩)
    (run_main m ρ)

end Cert.Inproj

end
-- ==== Proof.InprojArray.lean ====
module

public import proofs.«01_k».proof.Proof.InprojPoints
public import proofs.«01_k».proof.Proof.InprojRun
public import Idealize.ShloMosaic.Lib.Pipeline.ValueKit.Geometry

@[expose] public section

set_option maxRecDepth 16384

noncomputable section

namespace Cert.Inproj

open Idealize.ShloMosaic Idealize.ShloMosaic.TcCoe Cert.Kernel3Ideal Cert.Kernel3Ideal.Gen
open Idealize.ShloMosaic.Pipeline (Dat)

variable (m : (ℓ : Loc nD τ sig) → Buf (Elt Ideal) ℓ)

/-! ## Where each window's block lies in its array -/

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index9 : ∀ t : Fin cfg0.N, win0_9.index t 0 = t.val ∧ win0_9.index t 1 = 0 :=
  (by decide +kernel : ∀ t : Fin grid0.N, win0_9.index t 0 = t.val ∧ win0_9.index t 1 = 0)

theorem index10 : ∀ t : Fin cfg0.N, win0_10.index t 0 = t.val ∧ win0_10.index t 1 = 0 :=
  (by decide +kernel : ∀ t : Fin grid0.N, win0_10.index t 0 = t.val ∧ win0_10.index t 1 = 0)

theorem index11 : ∀ t : Fin cfg0.N, win0_11.index t 0 = t.val ∧ win0_11.index t 1 = 0 :=
  (by decide +kernel : ∀ t : Fin grid0.N, win0_11.index t 0 = t.val ∧ win0_11.index t 1 = 0)

theorem index12 : ∀ t : Fin cfg0.N, win0_12.index t 0 = t.val ∧ win0_12.index t 1 = 0 :=
  (by decide +kernel : ∀ t : Fin grid0.N, win0_12.index t 0 = t.val ∧ win0_12.index t 1 = 0)

theorem index13 : ∀ t : Fin cfg0.N, win0_13.index t 0 = t.val / 2 ∧ win0_13.index t 1 = 0 :=
  (by decide +kernel : ∀ t : Fin grid0.N, win0_13.index t 0 = t.val / 2 ∧ win0_13.index t 1 = 0)

theorem index14 : ∀ t : Fin cfg0.N, win0_14.index t 0 = 0 ∧ win0_14.index t 1 = t.val ∧ win0_14.index t 2 = 0 :=
  (by decide +kernel : ∀ t : Fin grid0.N, win0_14.index t 0 = 0 ∧ win0_14.index t 1 = t.val ∧ win0_14.index t 2 = 0)

theorem index15 : ∀ t : Fin cfg0.N, win0_15.index t 0 = t.val ∧ win0_15.index t 1 = 0 :=
  (by decide +kernel : ∀ t : Fin grid0.N, win0_15.index t 0 = t.val ∧ win0_15.index t 1 = 0)

theorem index17 : ∀ t : Fin cfg0.N, win0_17.index t 0 = t.val ∧ win0_17.index t 1 = 0 :=
  (by decide +kernel : ∀ t : Fin grid0.N, win0_17.index t 0 = t.val ∧ win0_17.index t 1 = 0)

theorem index18 : ∀ t : Fin cfg0.N, win0_18.index t 0 = t.val ∧ win0_18.index t 1 = 0 :=
  (by decide +kernel : ∀ t : Fin grid0.N, win0_18.index t 0 = t.val ∧ win0_18.index t 1 = 0)

theorem index19 : ∀ t : Fin cfg0.N, win0_19.index t 0 = t.val ∧ win0_19.index t 1 = 0 :=
  (by decide +kernel : ∀ t : Fin grid0.N, win0_19.index t 0 = t.val ∧ win0_19.index t 1 = 0)

theorem index20 : ∀ t : Fin cfg0.N, win0_20.index t 0 = t.val ∧ win0_20.index t 1 = 0 :=
  (by decide +kernel : ∀ t : Fin grid0.N, win0_20.index t 0 = t.val ∧ win0_20.index t 1 = 0)

theorem index21 : ∀ t : Fin cfg0.N, win0_21.index t 0 = t.val / 2 ∧ win0_21.index t 1 = 0 :=
  (by decide +kernel : ∀ t : Fin grid0.N, win0_21.index t 0 = t.val / 2 ∧ win0_21.index t 1 = 0)

theorem block0 (c : Dev nD) (t : Fin cfg0.N) (i : Fin 512) (j : Fin 1024) :
    (iblk m c 0 t : Vec Ideal S512x1024 .f32) (ix2 i j) = (m ((c : Thread nD τ).loc main_arg0)) (ix2 ⟨512 * (t.val) + i.val, by have := t_lt t; have : i.val < 512 := i.isLt; omega⟩ j) := by
  have e := index0 t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t 0 * 512 + 1 * i.val = 512 * (t.val) + i.val; rw [e.1]; omega
  | ⟨1, _⟩ => show win0_0.index t 1 * 1024 + 1 * j.val = j.val; rw [e.2]; omega

theorem block1 (c : Dev nD) (t : Fin cfg0.N) (i : Fin 1) (j : Fin 1024) :
    (iblk m c 1 t : Vec Ideal S1x1024 .f32) (ix2 i j) = (m ((c : Thread nD τ).loc main_arg1)) (ix2 i j) := by
  have e := index1 t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t 0 * 1 + 1 * i.val = i.val; rw [e.1]; omega
  | ⟨1, _⟩ => show win0_1.index t 1 * 1024 + 1 * j.val = j.val; rw [e.2]; omega

theorem block9 (c : Dev nD) (t : Fin cfg0.N) (i : Fin 32) (j : Fin 1024) :
    (iblk m c 9 t : Vec Ideal S32x1024 .f32) (ix2 i j) = (m ((c : Thread nD τ).loc main_arg10)) (ix2 ⟨32 * (t.val) + i.val, by have := t_lt t; have : i.val < 32 := i.isLt; omega⟩ j) := by
  have e := index9 t
  unfold iblk
  rw [View.read_apply]
  show V m c main_arg10 _ = _
  rw [V_main_arg10 m c]
  refine congrArg (m ((c : Thread nD τ).loc main_arg10)) (funext fun a => Fin.ext ?_)
  match a with
  | ⟨0, _⟩ => show win0_9.index t 0 * 32 + 1 * i.val = 32 * (t.val) + i.val; rw [e.1]; omega
  | ⟨1, _⟩ => show win0_9.index t 1 * 1024 + 1 * j.val = j.val; rw [e.2]; omega

theorem block10 (c : Dev nD) (t : Fin cfg0.N) (i : Fin 32) (j : Fin 1024) :
    (iblk m c 10 t : Vec Ideal S32x1024 .f32) (ix2 i j) = (m ((c : Thread nD τ).loc main_arg11)) (ix2 ⟨32 * (t.val) + i.val, by have := t_lt t; have : i.val < 32 := i.isLt; omega⟩ j) := by
  have e := index10 t
  unfold iblk
  rw [View.read_apply]
  show V m c main_arg11 _ = _
  rw [V_main_arg11 m c]
  refine congrArg (m ((c : Thread nD τ).loc main_arg11)) (funext fun a => Fin.ext ?_)
  match a with
  | ⟨0, _⟩ => show win0_10.index t 0 * 32 + 1 * i.val = 32 * (t.val) + i.val; rw [e.1]; omega
  | ⟨1, _⟩ => show win0_10.index t 1 * 1024 + 1 * j.val = j.val; rw [e.2]; omega

theorem block11 (c : Dev nD) (t : Fin cfg0.N) (i : Fin 32) (j : Fin 1024) :
    (iblk m c 11 t : Vec Ideal S32x1024 .f32) (ix2 i j) = (m ((c : Thread nD τ).loc main_arg12)) (ix2 ⟨32 * (t.val) + i.val, by have := t_lt t; have : i.val < 32 := i.isLt; omega⟩ j) := by
  have e := index11 t
  unfold iblk
  rw [View.read_apply]
  show V m c main_arg12 _ = _
  rw [V_main_arg12 m c]
  refine congrArg (m ((c : Thread nD τ).loc main_arg12)) (funext fun a => Fin.ext ?_)
  match a with
  | ⟨0, _⟩ => show win0_11.index t 0 * 32 + 1 * i.val = 32 * (t.val) + i.val; rw [e.1]; omega
  | ⟨1, _⟩ => show win0_11.index t 1 * 1024 + 1 * j.val = j.val; rw [e.2]; omega

theorem block12 (c : Dev nD) (t : Fin cfg0.N) (i : Fin 32) (j : Fin 5632) :
    (iblk m c 12 t : Vec Ideal S32x5632 .f32) (ix2 i j) = (m ((c : Thread nD τ).loc main_arg13)) (ix2 ⟨32 * (t.val) + i.val, by have := t_lt t; have : i.val < 32 := i.isLt; omega⟩ j) := by
  have e := index12 t
  unfold iblk
  rw [View.read_apply]
  show V m c main_arg13 _ = _
  rw [V_main_arg13 m c]
  refine congrArg (m ((c : Thread nD τ).loc main_arg13)) (funext fun a => Fin.ext ?_)
  match a with
  | ⟨0, _⟩ => show win0_12.index t 0 * 32 + 1 * i.val = 32 * (t.val) + i.val; rw [e.1]; omega
  | ⟨1, _⟩ => show win0_12.index t 1 * 5632 + 1 * j.val = j.val; rw [e.2]; omega

theorem block13 (c : Dev nD) (t : Fin cfg0.N) (i : Fin 176) (j : Fin 1024) :
    (iblk m c 13 t : Vec Ideal S176x1024 .f32) (ix2 i j) = (m ((c : Thread nD τ).loc main_arg14)) (ix2 ⟨176 * (t.val / 2) + i.val, by have := t_lt t; have : i.val < 176 := i.isLt; omega⟩ j) := by
  have e := index13 t
  unfold iblk
  rw [View.read_apply]
  show V m c main_arg14 _ = _
  rw [V_main_arg14 m c]
  refine congrArg (m ((c : Thread nD τ).loc main_arg14)) (funext fun a => Fin.ext ?_)
  match a with
  | ⟨0, _⟩ => show win0_13.index t 0 * 176 + 1 * i.val = 176 * (t.val / 2) + i.val; rw [e.1]; omega
  | ⟨1, _⟩ => show win0_13.index t 1 * 1024 + 1 * j.val = j.val; rw [e.2]; omega

/-! ## The result arrays, index by index -/

/-- The queries, keys and values of the whole result. -/
def qkv (c : Dev nD) : Buf (Elt Ideal) ((c : Thread nD τ).loc main_v0_0) := fun y : S24x16384x128.Idx =>
  qkvEntry (fun e => (m ((c : Thread nD τ).loc main_arg0)) (ix2 (y 1) e)) (fun e => (m ((c : Thread nD τ).loc main_arg1)) (ix2 0 e))
    (fun k j => (m ((c : Thread nD τ).loc main_arg2)) (ix2 k j)) (y 0) (y 2)

/-- The gates of the whole result. -/
def gates (c : Dev nD) : Buf (Elt Ideal) ((c : Thread nD τ).loc main_v0_1) := fun y : S16384x2048.Idx =>
  gateEntry (fun e => (m ((c : Thread nD τ).loc main_arg0)) (ix2 (y 0) e)) (fun e => (m ((c : Thread nD τ).loc main_arg1)) (ix2 0 e))
    (fun k j => (m ((c : Thread nD τ).loc main_arg2)) (ix2 k j)) (y 1)

theorem weights_apply (c : Dev nD) (k : Fin 1024) (j : Fin 7168) :
    weights m c (ix2 k j) = (m ((c : Thread nD τ).loc main_arg2)) (ix2 k j) := by
  show V m c main_arg2 _ = _
  rw [V_main_arg2 m c]

theorem qkvEntry_congr {x x' g g' : Fin 1024 → EReal} {w w' : Fin 1024 → Fin 7168 → EReal} (hx : x = x') (hg : g = g') (hw : w = w')
    (s : Fin 24) (l : Fin 128) : qkvEntry x g w s l = qkvEntry x' g' w' s l := by
  subst hx hg hw; rfl

theorem gateEntry_congr {x x' g g' : Fin 1024 → EReal} {w w' : Fin 1024 → Fin 7168 → EReal} (hx : x = x') (hg : g = g') (hw : w = w')
    (l : Fin 2048) : gateEntry x g w l = gateEntry x' g' w' l := by
  subst hx hg hw; rfl

theorem qkv_flushed (c : Dev nD) (t : Fin cfg0.N) : (dats m 0 c).flushed 14 t = (win0_14.blk t).view.read (Elt Ideal) (qkv m c) := by
  rw [flushed14 m c t, qkv_at]
  refine funext fun j : S24x512x128.Idx => ?_
  obtain ⟨e0, e1, e2⟩ := index14 t
  have hj : (j 1).val < 512 := (j 1).isLt
  rw [View.read_apply]
  refine Eq.trans (b := qkv m c (ix3 (j 0) ⟨512 * t.val + (j 1).val, by have := t_lt t; omega⟩ (j 2))) ?_ (congrArg (qkv m c) (funext fun a => Fin.ext ?_))
  · exact qkvEntry_congr (funext fun e => block0 m c t (j 1) e) (funext fun e => block1 m c t 0 e)
      (funext fun k => funext fun l => weights_apply m c k l) (j 0) (j 2)
  · match a with
    | ⟨0, _⟩ => show (j 0).val = win0_14.index t 0 * 24 + 1 * (j 0).val; rw [e0]; omega
    | ⟨1, _⟩ => show 512 * t.val + (j 1).val = win0_14.index t 1 * 512 + 1 * (j 1).val; rw [e1]; omega
    | ⟨2, _⟩ => show (j 2).val = win0_14.index t 2 * 128 + 1 * (j 2).val; rw [e2]; omega

/-- The queries, keys and values end holding `qkv`. -/
theorem qkv_final (c : Dev nD) : (dats m 0 c).arrAt 14 cfg0.N = qkv m c :=
  (dats m 0 c).arrAt_eq_of_cover 14 (qkv m c) (fun t _ => qkv_flushed m c t)
    (Pipeline.Window.Covers.cover win0_14 (by decide +kernel) (Memref.isWhole_whole _))

theorem gates_flushed (c : Dev nD) (t : Fin cfg0.N) : (dats m 0 c).flushed 15 t = (win0_15.blk t).view.read (Elt Ideal) (gates m c) := by
  rw [flushed15 m c t, gates_at]
  refine funext fun j : S512x2048.Idx => ?_
  obtain ⟨e0, e1⟩ := index15 t
  have hj : (j 0).val < 512 := (j 0).isLt
  rw [View.read_apply]
  refine Eq.trans (b := gates m c (ix2 ⟨512 * t.val + (j 0).val, by have := t_lt t; omega⟩ (j 1))) ?_ (congrArg (gates m c) (funext fun a => Fin.ext ?_))
  · exact gateEntry_congr (funext fun e => block0 m c t (j 0) e) (funext fun e => block1 m c t 0 e)
      (funext fun k => funext fun l => weights_apply m c k l) (j 1)
  · match a with
    | ⟨0, _⟩ => show 512 * t.val + (j 0).val = win0_15.index t 0 * 512 + 1 * (j 0).val; rw [e0]; omega
    | ⟨1, _⟩ => show (j 1).val = win0_15.index t 1 * 2048 + 1 * (j 1).val; rw [e1]; omega

/-- The gates end holding `gates`. -/
theorem gates_final (c : Dev nD) : (dats m 0 c).arrAt 15 cfg0.N = gates m c :=
  (dats m 0 c).arrAt_eq_of_cover 15 (gates m c) (fun t _ => gates_flushed m c t)
    (Pipeline.Window.Covers.cover win0_15 (by decide +kernel) (Memref.isWhole_whole _))

/-! ## The rounded copies of the later weights -/

/-- The rounded copy of argument 10 is the argument. -/
def out1 (c : Dev nD) : Buf (Elt Ideal) ((c : Thread nD τ).loc main_v0_3) := fun y : S1024x1024.Idx => (m ((c : Thread nD τ).loc main_arg10)) (ix2 (y 0) (y 1))

theorem out1_flushed (c : Dev nD) (t : Fin cfg0.N) : (dats m 0 c).flushed 17 t = (win0_17.blk t).view.read (Elt Ideal) (out1 m c) := by
  rw [flushed17 m c t, out1_at]
  refine funext fun j : S32x1024.Idx => ?_
  obtain ⟨e0, e1⟩ := index17 t
  have hj : (j 0).val < 32 := (j 0).isLt
  rw [View.read_apply]
  refine Eq.trans (b := out1 m c (ix2 ⟨32 * (t.val) + (j 0).val, by have := t_lt t; omega⟩ (j 1))) ?_ (congrArg (out1 m c) (funext fun a => Fin.ext ?_))
  · exact (congrArg (iblk m c 9 t : Vec Ideal S32x1024 .f32) (eq_ix2 j)).trans (block9 m c t (j 0) (j 1))
  · match a with
    | ⟨0, _⟩ => show 32 * (t.val) + (j 0).val = win0_17.index t 0 * 32 + 1 * (j 0).val; rw [e0]; omega
    | ⟨1, _⟩ => show (j 1).val = win0_17.index t 1 * 1024 + 1 * (j 1).val; rw [e1]; omega

theorem out1_final (c : Dev nD) : (dats m 0 c).arrAt 17 cfg0.N = out1 m c :=
  (dats m 0 c).arrAt_eq_of_cover 17 (out1 m c) (fun t _ => out1_flushed m c t)
    (Pipeline.Window.Covers.cover win0_17 (by decide +kernel) (Memref.isWhole_whole _))

/-- The rounded copy of argument 11 is the argument. -/
def out2 (c : Dev nD) : Buf (Elt Ideal) ((c : Thread nD τ).loc main_v0_4) := fun y : S1024x1024.Idx => (m ((c : Thread nD τ).loc main_arg11)) (ix2 (y 0) (y 1))

theorem out2_flushed (c : Dev nD) (t : Fin cfg0.N) : (dats m 0 c).flushed 18 t = (win0_18.blk t).view.read (Elt Ideal) (out2 m c) := by
  rw [flushed18 m c t, out2_at]
  refine funext fun j : S32x1024.Idx => ?_
  obtain ⟨e0, e1⟩ := index18 t
  have hj : (j 0).val < 32 := (j 0).isLt
  rw [View.read_apply]
  refine Eq.trans (b := out2 m c (ix2 ⟨32 * (t.val) + (j 0).val, by have := t_lt t; omega⟩ (j 1))) ?_ (congrArg (out2 m c) (funext fun a => Fin.ext ?_))
  · exact (congrArg (iblk m c 10 t : Vec Ideal S32x1024 .f32) (eq_ix2 j)).trans (block10 m c t (j 0) (j 1))
  · match a with
    | ⟨0, _⟩ => show 32 * (t.val) + (j 0).val = win0_18.index t 0 * 32 + 1 * (j 0).val; rw [e0]; omega
    | ⟨1, _⟩ => show (j 1).val = win0_18.index t 1 * 1024 + 1 * (j 1).val; rw [e1]; omega

theorem out2_final (c : Dev nD) : (dats m 0 c).arrAt 18 cfg0.N = out2 m c :=
  (dats m 0 c).arrAt_eq_of_cover 18 (out2 m c) (fun t _ => out2_flushed m c t)
    (Pipeline.Window.Covers.cover win0_18 (by decide +kernel) (Memref.isWhole_whole _))

/-- The rounded copy of argument 12 is the argument. -/
def out3 (c : Dev nD) : Buf (Elt Ideal) ((c : Thread nD τ).loc main_v0_5) := fun y : S1024x1024.Idx => (m ((c : Thread nD τ).loc main_arg12)) (ix2 (y 0) (y 1))

theorem out3_flushed (c : Dev nD) (t : Fin cfg0.N) : (dats m 0 c).flushed 19 t = (win0_19.blk t).view.read (Elt Ideal) (out3 m c) := by
  rw [flushed19 m c t, out3_at]
  refine funext fun j : S32x1024.Idx => ?_
  obtain ⟨e0, e1⟩ := index19 t
  have hj : (j 0).val < 32 := (j 0).isLt
  rw [View.read_apply]
  refine Eq.trans (b := out3 m c (ix2 ⟨32 * (t.val) + (j 0).val, by have := t_lt t; omega⟩ (j 1))) ?_ (congrArg (out3 m c) (funext fun a => Fin.ext ?_))
  · exact (congrArg (iblk m c 11 t : Vec Ideal S32x1024 .f32) (eq_ix2 j)).trans (block11 m c t (j 0) (j 1))
  · match a with
    | ⟨0, _⟩ => show 32 * (t.val) + (j 0).val = win0_19.index t 0 * 32 + 1 * (j 0).val; rw [e0]; omega
    | ⟨1, _⟩ => show (j 1).val = win0_19.index t 1 * 1024 + 1 * (j 1).val; rw [e1]; omega

theorem out3_final (c : Dev nD) : (dats m 0 c).arrAt 19 cfg0.N = out3 m c :=
  (dats m 0 c).arrAt_eq_of_cover 19 (out3 m c) (fun t _ => out3_flushed m c t)
    (Pipeline.Window.Covers.cover win0_19 (by decide +kernel) (Memref.isWhole_whole _))

/-- The rounded copy of argument 13 is the argument. -/
def ffn1 (c : Dev nD) : Buf (Elt Ideal) ((c : Thread nD τ).loc main_v0_6) := fun y : S1024x5632.Idx => (m ((c : Thread nD τ).loc main_arg13)) (ix2 (y 0) (y 1))

theorem ffn1_flushed (c : Dev nD) (t : Fin cfg0.N) : (dats m 0 c).flushed 20 t = (win0_20.blk t).view.read (Elt Ideal) (ffn1 m c) := by
  rw [flushed20 m c t, ffn1_at]
  refine funext fun j : S32x5632.Idx => ?_
  obtain ⟨e0, e1⟩ := index20 t
  have hj : (j 0).val < 32 := (j 0).isLt
  rw [View.read_apply]
  refine Eq.trans (b := ffn1 m c (ix2 ⟨32 * (t.val) + (j 0).val, by have := t_lt t; omega⟩ (j 1))) ?_ (congrArg (ffn1 m c) (funext fun a => Fin.ext ?_))
  · exact (congrArg (iblk m c 12 t : Vec Ideal S32x5632 .f32) (eq_ix2 j)).trans (block12 m c t (j 0) (j 1))
  · match a with
    | ⟨0, _⟩ => show 32 * (t.val) + (j 0).val = win0_20.index t 0 * 32 + 1 * (j 0).val; rw [e0]; omega
    | ⟨1, _⟩ => show (j 1).val = win0_20.index t 1 * 5632 + 1 * (j 1).val; rw [e1]; omega

theorem ffn1_final (c : Dev nD) : (dats m 0 c).arrAt 20 cfg0.N = ffn1 m c :=
  (dats m 0 c).arrAt_eq_of_cover 20 (ffn1 m c) (fun t _ => ffn1_flushed m c t)
    (Pipeline.Window.Covers.cover win0_20 (by decide +kernel) (Memref.isWhole_whole _))

/-- The rounded copy of argument 14 is the argument. -/
def ffn2 (c : Dev nD) : Buf (Elt Ideal) ((c : Thread nD τ).loc main_v0_7) := fun y : S2816x1024.Idx => (m ((c : Thread nD τ).loc main_arg14)) (ix2 (y 0) (y 1))

theorem ffn2_flushed (c : Dev nD) (t : Fin cfg0.N) : (dats m 0 c).flushed 21 t = (win0_21.blk t).view.read (Elt Ideal) (ffn2 m c) := by
  rw [flushed21 m c t, ffn2_at]
  refine funext fun j : S176x1024.Idx => ?_
  obtain ⟨e0, e1⟩ := index21 t
  have hj : (j 0).val < 176 := (j 0).isLt
  rw [View.read_apply]
  refine Eq.trans (b := ffn2 m c (ix2 ⟨176 * (t.val / 2) + (j 0).val, by have := t_lt t; omega⟩ (j 1))) ?_ (congrArg (ffn2 m c) (funext fun a => Fin.ext ?_))
  · exact (congrArg (iblk m c 13 t : Vec Ideal S176x1024 .f32) (eq_ix2 j)).trans (block13 m c t (j 0) (j 1))
  · match a with
    | ⟨0, _⟩ => show 176 * (t.val / 2) + (j 0).val = win0_21.index t 0 * 176 + 1 * (j 0).val; rw [e0]; omega
    | ⟨1, _⟩ => show (j 1).val = win0_21.index t 1 * 1024 + 1 * (j 1).val; rw [e1]; omega

theorem ffn2_final (c : Dev nD) : (dats m 0 c).arrAt 21 cfg0.N = ffn2 m c :=
  (dats m 0 c).arrAt_eq_of_cover 21 (ffn2 m c) (fun t _ => ffn2_flushed m c t)
    (Pipeline.Window.Covers.cover win0_21 (by decide +kernel) (Memref.isWhole_whole _))

/-! ## The reference, from arguments that agree -/

section
variable (m' : (ℓ : Loc Cert.Reference3Ideal.nD Cert.Reference3Ideal.τ Cert.Reference3Ideal.sig) → Buf (Elt Ideal) ℓ) (c : Dev nD)

theorem reference_qkv (h0 : m' ((c.tc : Thread Cert.Reference3Ideal.nD Cert.Reference3Ideal.τ).loc Cert.Reference3Ideal.main_arg0) = m ((c : Thread nD τ).loc main_arg0))
    (h1 : m' ((c.tc : Thread Cert.Reference3Ideal.nD Cert.Reference3Ideal.τ).loc Cert.Reference3Ideal.main_arg1) = m ((c : Thread nD τ).loc main_arg1))
    (h2 : m' ((c.tc : Thread Cert.Reference3Ideal.nD Cert.Reference3Ideal.τ).loc Cert.Reference3Ideal.main_arg2) = m ((c : Thread nD τ).loc main_arg2)) :
    Host.slabs (Host.projected (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))) = qkv m c := by
  refine funext fun y : S24x16384x128.Idx => ?_
  rw [h0, h1, h2]
  exact (congrArg (Host.slabs _) (eq_ix3 y)).trans (Host.qkv_apply _ _ _ (y 0) (y 1) (y 2))

theorem reference_gates (h0 : m' ((c.tc : Thread Cert.Reference3Ideal.nD Cert.Reference3Ideal.τ).loc Cert.Reference3Ideal.main_arg0) = m ((c : Thread nD τ).loc main_arg0))
    (h1 : m' ((c.tc : Thread Cert.Reference3Ideal.nD Cert.Reference3Ideal.τ).loc Cert.Reference3Ideal.main_arg1) = m ((c : Thread nD τ).loc main_arg1))
    (h2 : m' ((c.tc : Thread Cert.Reference3Ideal.nD Cert.Reference3Ideal.τ).loc Cert.Reference3Ideal.main_arg2) = m ((c : Thread nD τ).loc main_arg2)) :
    Host.gates (Host.projected (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))) = gates m c := by
  refine funext fun y : S16384x2048.Idx => ?_
  rw [h0, h1, h2]
  exact (congrArg (Host.gates _) (eq_ix2 y)).trans (Host.gates_apply _ _ _ (y 0) (y 1))

theorem reference_out1 (h : m' ((c.tc : Thread Cert.Reference3Ideal.nD Cert.Reference3Ideal.τ).loc Cert.Reference3Ideal.main_arg10) = m ((c : Thread nD τ).loc main_arg10)) :
    (truncf .bf16 (m' ((c.tc : Thread Cert.Reference3Ideal.nD Cert.Reference3Ideal.τ).loc Cert.Reference3Ideal.main_arg10) : FVec Ideal S1024x1024 .f32) bitsLt_bf16_f32 : FVec Ideal S1024x1024 .bf16) = out1 m c := by
  rw [h]
  exact funext fun y : S1024x1024.Idx => congrArg (m ((c : Thread nD τ).loc main_arg10)) (eq_ix2 y)

theorem reference_out2 (h : m' ((c.tc : Thread Cert.Reference3Ideal.nD Cert.Reference3Ideal.τ).loc Cert.Reference3Ideal.main_arg11) = m ((c : Thread nD τ).loc main_arg11)) :
    (truncf .bf16 (m' ((c.tc : Thread Cert.Reference3Ideal.nD Cert.Reference3Ideal.τ).loc Cert.Reference3Ideal.main_arg11) : FVec Ideal S1024x1024 .f32) bitsLt_bf16_f32 : FVec Ideal S1024x1024 .bf16) = out2 m c := by
  rw [h]
  exact funext fun y : S1024x1024.Idx => congrArg (m ((c : Thread nD τ).loc main_arg11)) (eq_ix2 y)

theorem reference_out3 (h : m' ((c.tc : Thread Cert.Reference3Ideal.nD Cert.Reference3Ideal.τ).loc Cert.Reference3Ideal.main_arg12) = m ((c : Thread nD τ).loc main_arg12)) :
    (truncf .bf16 (m' ((c.tc : Thread Cert.Reference3Ideal.nD Cert.Reference3Ideal.τ).loc Cert.Reference3Ideal.main_arg12) : FVec Ideal S1024x1024 .f32) bitsLt_bf16_f32 : FVec Ideal S1024x1024 .bf16) = out3 m c := by
  rw [h]
  exact funext fun y : S1024x1024.Idx => congrArg (m ((c : Thread nD τ).loc main_arg12)) (eq_ix2 y)

theorem reference_ffn1 (h : m' ((c.tc : Thread Cert.Reference3Ideal.nD Cert.Reference3Ideal.τ).loc Cert.Reference3Ideal.main_arg13) = m ((c : Thread nD τ).loc main_arg13)) :
    (truncf .bf16 (m' ((c.tc : Thread Cert.Reference3Ideal.nD Cert.Reference3Ideal.τ).loc Cert.Reference3Ideal.main_arg13) : FVec Ideal S1024x5632 .f32) bitsLt_bf16_f32 : FVec Ideal S1024x5632 .bf16) = ffn1 m c := by
  rw [h]
  exact funext fun y : S1024x5632.Idx => congrArg (m ((c : Thread nD τ).loc main_arg13)) (eq_ix2 y)

theorem reference_ffn2 (h : m' ((c.tc : Thread Cert.Reference3Ideal.nD Cert.Reference3Ideal.τ).loc Cert.Reference3Ideal.main_arg14) = m ((c : Thread nD τ).loc main_arg14)) :
    (truncf .bf16 (m' ((c.tc : Thread Cert.Reference3Ideal.nD Cert.Reference3Ideal.τ).loc Cert.Reference3Ideal.main_arg14) : FVec Ideal S2816x1024 .f32) bitsLt_bf16_f32 : FVec Ideal S2816x1024 .bf16) = ffn2 m c := by
  rw [h]
  exact funext fun y : S2816x1024.Idx => congrArg (m ((c : Thread nD τ).loc main_arg14)) (eq_ix2 y)

end

end Cert.Inproj

end
-- ==== Proof.lean ====
/- The claims of this certificate: the frames of the three calls, and the value claims of the mix-and-feed-forward call
   and of the projection call against plain jnp over the extended reals. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.MixArray
public import proofs.«01_k».proof.Proof.InprojArray
public import Idealize.ShloMosaic.Lib.Quiescent

@[expose] public section

noncomputable section

namespace Cert.Proof

open Idealize.ShloMosaic Idealize.ShloMosaic.TcCoe Idealize.SL.Sem

/-- The reference's run keeps its arguments and leaves every semaphore counter at zero. -/
theorem frame_reference2 : quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩) (Cert.Reference2Ideal.Value.run m ρ)

theorem algebraic2 : algebraic_Kernel2Ideal_Reference2Ideal (hKernel2Ideal := Cert.Kernel2Ideal.Gen.facts)
    (hReference2Ideal := Cert.Reference2Ideal.Gen.facts) :=
  fun m ρ m' ρ' _ hag => ⟨fun c => Cert.Mix.result m c,
    (θ_run (Cert.Kernel2Ideal.defs (F := Ideal)) _ _).mono (fun _ h c => ⟨(h c).1.trans (Cert.Mix.final m c), (h c).2⟩)
      (Cert.Kernel2Ideal.Value.run_blocks m ρ),
    (θ_run (Cert.Reference2Ideal.defs (F := Ideal)) _ _).mono
      (fun _ h c => ⟨(h c).1.trans (Cert.Mix.reference_eq m m' c (hag c).1 (hag c).2.1 (hag c).2.2.1 (hag c).2.2.2.1
        (hag c).2.2.2.2.1 (hag c).2.2.2.2.2.1 (hag c).2.2.2.2.2.2.1 (hag c).2.2.2.2.2.2.2.1 (hag c).2.2.2.2.2.2.2.2.1
        (hag c).2.2.2.2.2.2.2.2.2.1 (hag c).2.2.2.2.2.2.2.2.2.2.1 (hag c).2.2.2.2.2.2.2.2.2.2.2), (h c).2⟩)
      (Cert.Reference2Ideal.Value.run m' ρ')⟩

/-- The projection's reference keeps its arguments and leaves every semaphore counter at zero. -/
theorem frame_reference3 : quiescent_Reference3Ideal (hReference3Ideal := Cert.Reference3Ideal.Gen.facts) := fun m ρ _ =>
  (θ_run (Cert.Reference3Ideal.defs (F := Ideal)) _ _).mono
    (fun r h => ⟨fun c => (h c).2.2.2.2.2.2.2, sem_eq_zero_of_no_sems (by decide) r.2⟩) (Cert.Reference3Ideal.Value.run m ρ)

theorem algebraic3 : algebraic_Kernel3Ideal_Reference3Ideal (hKernel3Ideal := Cert.Kernel3Ideal.Gen.facts)
    (hReference3Ideal := Cert.Reference3Ideal.Gen.facts) :=
  fun m ρ m' ρ' _ hag => ⟨fun c => Cert.Inproj.qkv m c, fun c => Cert.Inproj.gates m c, fun c => Cert.Inproj.out1 m c,
    fun c => Cert.Inproj.out2 m c, fun c => Cert.Inproj.out3 m c, fun c => Cert.Inproj.ffn1 m c, fun c => Cert.Inproj.ffn2 m c,
    (θ_run (Cert.Kernel3Ideal.defs (F := Ideal)) _ _).mono (fun _ h c => by
      obtain ⟨r0, r1, r2, r3, r4, r5, r6, hk⟩ := h c
      exact ⟨r0.trans (Cert.Inproj.qkv_final m c), r1.trans (Cert.Inproj.gates_final m c), r2.trans (Cert.Inproj.out1_final m c),
        r3.trans (Cert.Inproj.out2_final m c), r4.trans (Cert.Inproj.out3_final m c), r5.trans (Cert.Inproj.ffn1_final m c),
        r6.trans (Cert.Inproj.ffn2_final m c), hk⟩)
      (Cert.Inproj.run_results m ρ),
    (θ_run (Cert.Reference3Ideal.defs (F := Ideal)) _ _).mono (fun _ h c => by
      obtain ⟨r0, r1, r2, r3, r4, r5, r6, hk⟩ := h c
      obtain ⟨a0, a1, a2, _, _, _, _, _, _, _, a10, a11, a12, a13, a14⟩ := hag c
      exact ⟨r0.trans (Cert.Inproj.reference_qkv m m' c a0 a1 a2), r1.trans (Cert.Inproj.reference_gates m m' c a0 a1 a2),
        r2.trans (Cert.Inproj.reference_out1 m m' c a10), r3.trans (Cert.Inproj.reference_out2 m m' c a11),
        r4.trans (Cert.Inproj.reference_out3 m m' c a12), r5.trans (Cert.Inproj.reference_ffn1 m m' c a13),
        r6.trans (Cert.Inproj.reference_ffn2 m m' c a14), hk⟩)
      (Cert.Reference3Ideal.Value.run m' ρ')⟩

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    fun m ρ _ => Cert.Kernel.Gen.frame m ρ, fun m ρ _ => Cert.KernelIdeal.Gen.frame m ρ,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    trivial, trivial, algebraic2, trivial, algebraic3⟩

end Cert.Proof

end
